-- ==== Defs.lean ====
def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnRefIdeal (m : (ℓ : Loc Cert.GdnRefIdeal.nD Cert.GdnRefIdeal.τ Cert.GdnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InBa (m : (ℓ : Loc Cert.InBa.nD Cert.InBa.τ Cert.InBa.sig) → Buf (Elt Bits) ℓ) : Prop :=
  True

def Pre_InBaIdeal (m : (ℓ : Loc Cert.InBaIdeal.nD Cert.InBaIdeal.τ Cert.InBaIdeal.sig) → Buf (Elt Ideal) ℓ) : Prop :=
  True

def Pre_InBaRefIdeal (m : (ℓ : Loc Cert.InBaRefIdeal.nD Cert.InBaRefIdeal.τ Cert.InBaRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def quiescent_InBa [hInBa : Cert.InBa.Facts] : Prop :=
  ∀ (m : (ℓ : Loc Cert.InBa.nD Cert.InBa.τ Cert.InBa.sig) → Buf (Elt Bits) ℓ) (g : Dev Cert.InBa.nD → PrngReg), Pre_InBa m →
    θ_run (Cert.InBa.defs (F := Bits)) (onTc (τ := Cert.InBa.τ) (Cert.InBa.main (F := Bits))) ⟨m, fun _ => 0, g⟩ (fun r => (∀ c : Dev Cert.InBa.nD,
      r.2.mem ((c.tc : Thread Cert.InBa.nD Cert.InBa.τ).loc Cert.InBa.main_arg0) = m ((c.tc : Thread Cert.InBa.nD Cert.InBa.τ).loc Cert.InBa.main_arg0)
      ∧ r.2.mem ((c.tc : Thread Cert.InBa.nD Cert.InBa.τ).loc Cert.InBa.main_arg1) = m ((c.tc : Thread Cert.InBa.nD Cert.InBa.τ).loc Cert.InBa.main_arg1)
      ∧ r.2.mem ((c.tc : Thread Cert.InBa.nD Cert.InBa.τ).loc Cert.InBa.main_arg2) = m ((c.tc : Thread Cert.InBa.nD Cert.InBa.τ).loc Cert.InBa.main_arg2))
      ∧ r.2.sem = fun _ => 0)

def quiescent_InBaIdeal [hInBaIdeal : Cert.InBaIdeal.Facts] : Prop :=
  ∀ (m : (ℓ : Loc Cert.InBaIdeal.nD Cert.InBaIdeal.τ Cert.InBaIdeal.sig) → Buf (Elt Ideal) ℓ) (g : Dev Cert.InBaIdeal.nD → PrngReg), Pre_InBaIdeal m →
    θ_run (Cert.InBaIdeal.defs (F := Ideal)) (onTc (τ := Cert.InBaIdeal.τ) (Cert.InBaIdeal.main (F := Ideal))) ⟨m, fun _ => 0, g⟩ (fun r => (∀ c : Dev Cert.InBaIdeal.nD,
      r.2.mem ((c.tc : Thread Cert.InBaIdeal.nD Cert.InBaIdeal.τ).loc Cert.InBaIdeal.main_arg0) = m ((c.tc : Thread Cert.InBaIdeal.nD Cert.InBaIdeal.τ).loc Cert.InBaIdeal.main_arg0)
      ∧ r.2.mem ((c.tc : Thread Cert.InBaIdeal.nD Cert.InBaIdeal.τ).loc Cert.InBaIdeal.main_arg1) = m ((c.tc : Thread Cert.InBaIdeal.nD Cert.InBaIdeal.τ).loc Cert.InBaIdeal.main_arg1)
      ∧ r.2.mem ((c.tc : Thread Cert.InBaIdeal.nD Cert.InBaIdeal.τ).loc Cert.InBaIdeal.main_arg2) = m ((c.tc : Thread Cert.InBaIdeal.nD Cert.InBaIdeal.τ).loc Cert.InBaIdeal.main_arg2))
      ∧ r.2.sem = fun _ => 0)

def quiescent_InBaRefIdeal [hInBaRefIdeal : Cert.InBaRefIdeal.Facts] : Prop :=
  ∀ (m : (ℓ : Loc Cert.InBaRefIdeal.nD Cert.InBaRefIdeal.τ Cert.InBaRefIdeal.sig) → Buf (Elt Ideal) ℓ) (g : Dev Cert.InBaRefIdeal.nD → PrngReg), Pre_InBaRefIdeal m →
    θ_run (Cert.InBaRefIdeal.defs (F := Ideal)) (onTc (τ := Cert.InBaRefIdeal.τ) (Cert.InBaRefIdeal.main (F := Ideal))) ⟨m, fun _ => 0, g⟩ (fun r => (∀ c : Dev Cert.InBaRefIdeal.nD,
      r.2.mem ((c.tc : Thread Cert.InBaRefIdeal.nD Cert.InBaRefIdeal.τ).loc Cert.InBaRefIdeal.main_arg0) = m ((c.tc : Thread Cert.InBaRefIdeal.nD Cert.InBaRefIdeal.τ).loc Cert.InBaRefIdeal.main_arg0)
      ∧ r.2.mem ((c.tc : Thread Cert.InBaRefIdeal.nD Cert.InBaRefIdeal.τ).loc Cert.InBaRefIdeal.main_arg1) = m ((c.tc : Thread Cert.InBaRefIdeal.nD Cert.InBaRefIdeal.τ).loc Cert.InBaRefIdeal.main_arg1)
      ∧ r.2.mem ((c.tc : Thread Cert.InBaRefIdeal.nD Cert.InBaRefIdeal.τ).loc Cert.InBaRefIdeal.main_arg2) = m ((c.tc : Thread Cert.InBaRefIdeal.nD Cert.InBaRefIdeal.τ).loc Cert.InBaRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def preserves_Gdn_GdnIdeal : Prop :=
  IdealRules.named_const.Statement Cert.GdnIdeal.κ "mask" .f32 0xF149F2CA#32 ⊥

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)) →
    ∃ (v0 : (c : Dev Cert.InAIdeal.nD) → Buf (Elt Ideal) ((c.tc : Thread Cert.InAIdeal.nD Cert.InAIdeal.τ).loc Cert.InAIdeal.main_v3)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v3) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v14) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v3)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v3) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v14) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def preserves_InBa_InBaIdeal : Prop :=
  True

def algebraic_InBaIdeal_InBaRefIdeal [hInBaIdeal : Cert.InBaIdeal.Facts] [hInBaRefIdeal : Cert.InBaRefIdeal.Facts] : Prop :=
  ∀ (m : (ℓ : Loc Cert.InBaIdeal.nD Cert.InBaIdeal.τ Cert.InBaIdeal.sig) → Buf (Elt Ideal) ℓ) (g : Dev Cert.InBaIdeal.nD → PrngReg)
    (m' : (ℓ : Loc Cert.InBaRefIdeal.nD Cert.InBaRefIdeal.τ Cert.InBaRefIdeal.sig) → Buf (Elt Ideal) ℓ) (g' : Dev Cert.InBaRefIdeal.nD → PrngReg), Pre_InBaIdeal m →
    (∀ c : Dev Cert.InBaIdeal.nD,
      m' ((c.tc : Thread Cert.InBaRefIdeal.nD Cert.InBaRefIdeal.τ).loc Cert.InBaRefIdeal.main_arg0) = m ((c.tc : Thread Cert.InBaIdeal.nD Cert.InBaIdeal.τ).loc Cert.InBaIdeal.main_arg0)
      ∧ m' ((c.tc : Thread Cert.InBaRefIdeal.nD Cert.InBaRefIdeal.τ).loc Cert.InBaRefIdeal.main_arg1) = m ((c.tc : Thread Cert.InBaIdeal.nD Cert.InBaIdeal.τ).loc Cert.InBaIdeal.main_arg1)
      ∧ m' ((c.tc : Thread Cert.InBaRefIdeal.nD Cert.InBaRefIdeal.τ).loc Cert.InBaRefIdeal.main_arg2) = m ((c.tc : Thread Cert.InBaIdeal.nD Cert.InBaIdeal.τ).loc Cert.InBaIdeal.main_arg2)) →
    ∃ (v0 : (c : Dev Cert.InBaIdeal.nD) → Buf (Elt Ideal) ((c.tc : Thread Cert.InBaIdeal.nD Cert.InBaIdeal.τ).loc Cert.InBaIdeal.main_v4)),
      θ_run (Cert.InBaIdeal.defs (F := Ideal)) (onTc (τ := Cert.InBaIdeal.τ) (Cert.InBaIdeal.main (F := Ideal))) ⟨m, fun _ => 0, g⟩ (fun r => ∀ c : Dev Cert.InBaIdeal.nD,
          r.2.mem ((c.tc : Thread Cert.InBaIdeal.nD Cert.InBaIdeal.τ).loc Cert.InBaIdeal.main_v4) = v0 c
          ∧ r.2.mem ((c.tc : Thread Cert.InBaIdeal.nD Cert.InBaIdeal.τ).loc Cert.InBaIdeal.main_arg0) = m ((c.tc : Thread Cert.InBaIdeal.nD Cert.InBaIdeal.τ).loc Cert.InBaIdeal.main_arg0)
          ∧ r.2.mem ((c.tc : Thread Cert.InBaIdeal.nD Cert.InBaIdeal.τ).loc Cert.InBaIdeal.main_arg1) = m ((c.tc : Thread Cert.InBaIdeal.nD Cert.InBaIdeal.τ).loc Cert.InBaIdeal.main_arg1)
          ∧ r.2.mem ((c.tc : Thread Cert.InBaIdeal.nD Cert.InBaIdeal.τ).loc Cert.InBaIdeal.main_arg2) = m ((c.tc : Thread Cert.InBaIdeal.nD Cert.InBaIdeal.τ).loc Cert.InBaIdeal.main_arg2))
      ∧ θ_run (Cert.InBaRefIdeal.defs (F := Ideal)) (onTc (τ := Cert.InBaRefIdeal.τ) (Cert.InBaRefIdeal.main (F := Ideal))) ⟨m', fun _ => 0, g'⟩ (fun r => ∀ c : Dev Cert.InBaRefIdeal.nD,
          r.2.mem ((c.tc : Thread Cert.InBaRefIdeal.nD Cert.InBaRefIdeal.τ).loc Cert.InBaRefIdeal.main_v15) = v0 c
          ∧ r.2.mem ((c.tc : Thread Cert.InBaRefIdeal.nD Cert.InBaRefIdeal.τ).loc Cert.InBaRefIdeal.main_arg0) = m' ((c.tc : Thread Cert.InBaRefIdeal.nD Cert.InBaRefIdeal.τ).loc Cert.InBaRefIdeal.main_arg0)
          ∧ r.2.mem ((c.tc : Thread Cert.InBaRefIdeal.nD Cert.InBaRefIdeal.τ).loc Cert.InBaRefIdeal.main_arg1) = m' ((c.tc : Thread Cert.InBaRefIdeal.nD Cert.InBaRefIdeal.τ).loc Cert.InBaRefIdeal.main_arg1)
          ∧ r.2.mem ((c.tc : Thread Cert.InBaRefIdeal.nD Cert.InBaRefIdeal.τ).loc Cert.InBaRefIdeal.main_arg2) = m' ((c.tc : Thread Cert.InBaRefIdeal.nD Cert.InBaRefIdeal.τ).loc Cert.InBaRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v13) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v3)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v3) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v37) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def Claim : Prop :=
  ∃ (hGdn : Cert.Gdn.Facts) (hGdnIdeal : Cert.GdnIdeal.Facts) (hGdnRefIdeal : Cert.GdnRefIdeal.Facts) (hFfn : Cert.Ffn.Facts) (hFfnIdeal : Cert.FfnIdeal.Facts) (hFfnRefIdeal : Cert.FfnRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hInBa : Cert.InBa.Facts) (hInBaIdeal : Cert.InBaIdeal.Facts) (hInBaRefIdeal : Cert.InBaRefIdeal.Facts) (hKv : Cert.Kv.Facts) (hKvIdeal : Cert.KvIdeal.Facts) (hKvRefIdeal : Cert.KvRefIdeal.Facts) (hOutProj : Cert.OutProj.Facts) (hOutProjIdeal : Cert.OutProjIdeal.Facts) (hOutProjRefIdeal : Cert.OutProjRefIdeal.Facts) (hXattn : Cert.Xattn.Facts) (hXattnIdeal : Cert.XattnIdeal.Facts) (hXattnRefIdeal : Cert.XattnRefIdeal.Facts),
    quiescent_Gdn (hGdn := hGdn)
    ∧ quiescent_GdnIdeal (hGdnIdeal := hGdnIdeal)
    ∧ quiescent_GdnRefIdeal (hGdnRefIdeal := hGdnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_InBa (hInBa := hInBa)
    ∧ quiescent_InBaIdeal (hInBaIdeal := hInBaIdeal)
    ∧ quiescent_InBaRefIdeal (hInBaRefIdeal := hInBaRefIdeal)
    ∧ quiescent_Kv (hKv := hKv)
    ∧ quiescent_KvIdeal (hKvIdeal := hKvIdeal)
    ∧ quiescent_KvRefIdeal (hKvRefIdeal := hKvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Xattn (hXattn := hXattn)
    ∧ quiescent_XattnIdeal (hXattnIdeal := hXattnIdeal)
    ∧ quiescent_XattnRefIdeal (hXattnRefIdeal := hXattnRefIdeal)
    ∧ preserves_Gdn_GdnIdeal
    ∧ preserves_Ffn_FfnIdeal
    ∧ algebraic_FfnIdeal_FfnRefIdeal (hFfnIdeal := hFfnIdeal) (hFfnRefIdeal := hFfnRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_InBa_InBaIdeal
    ∧ algebraic_InBaIdeal_InBaRefIdeal (hInBaIdeal := hInBaIdeal) (hInBaRefIdeal := hInBaRefIdeal)
    ∧ preserves_Kv_KvIdeal
    ∧ algebraic_KvIdeal_KvRefIdeal (hKvIdeal := hKvIdeal) (hKvRefIdeal := hKvRefIdeal)
    ∧ preserves_OutProj_OutProjIdeal
    ∧ algebraic_OutProjIdeal_OutProjRefIdeal (hOutProjIdeal := hOutProjIdeal) (hOutProjRefIdeal := hOutProjRefIdeal)
    ∧ preserves_Xattn_XattnIdeal
    ∧ algebraic_XattnIdeal_XattnRefIdeal (hXattnIdeal := hXattnIdeal) (hXattnRefIdeal := hXattnRefIdeal)
-- ==== Gdn.lean ====
abbrev S8x2048x4096 : Shape := ⟨3, ![8, 2048, 4096]⟩
abbrev S8x2048x128 : Shape := ⟨3, ![8, 2048, 128]⟩
abbrev S4x3072 : Shape := ⟨2, ![4, 3072]⟩
abbrev S8 : Shape := ⟨1, ![8]⟩
abbrev S128 : Shape := ⟨1, ![128]⟩
abbrev S1x128 : Shape := ⟨2, ![1, 128]⟩
abbrev S8x2048x1024 : Shape := ⟨3, ![8, 2048, 1024]⟩
abbrev S1x2048x128 : Shape := ⟨3, ![1, 2048, 128]⟩
abbrev S4x128 : Shape := ⟨2, ![4, 128]⟩
abbrev S2056x128 : Shape := ⟨2, ![2056, 128]⟩
abbrev S8x128 : Shape := ⟨2, ![8, 128]⟩
abbrev S2048x128 : Shape := ⟨2, ![2048, 128]⟩
abbrev S128x128 : Shape := ⟨2, ![128, 128]⟩
abbrev S1 : Shape := ⟨1, ![1]⟩
abbrev S128x1 : Shape := ⟨2, ![128, 1]⟩
abbrev S136x128 : Shape := ⟨2, ![136, 128]⟩
abbrev S1x128x128 : Shape := ⟨3, ![1, 128, 128]⟩

abbrev nBuf : Space → Nat
  | .hbm => 8
  | .vmem => 22
  | .smem => 2
  | _ => 0

abbrev bufTy : (tb : Table) → Fin (tcTables nBuf tb) → BufTy
  | .hbm, ⟨0, _⟩ => ⟨S8x2048x4096, .f32⟩
  | .hbm, ⟨1, _⟩ => ⟨S8x2048x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S1x128, .f32⟩
  | .hbm, ⟨7, _⟩ => ⟨S8x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S1x128, .f32⟩
  | .local _ .vmem, ⟨17, _⟩ => ⟨S1x2048x128, .f32⟩
  | .local _ .vmem, ⟨18, _⟩ => ⟨S1x2048x128, .f32⟩
  | .local _ .vmem, ⟨19, _⟩ => ⟨S2056x128, .f32⟩
  | .local _ .vmem, ⟨20, _⟩ => ⟨S2056x128, .f32⟩
  | .local _ .vmem, ⟨21, _⟩ => ⟨S2056x128, .f32⟩
  | .local _ .smem, ⟨0, _⟩ => ⟨S8, .f32⟩
  | .local _ .smem, ⟨1, _⟩ => ⟨S8, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let arg1 : BitVec 32 := BitVec.ofNat 32 (i 1).val
  let v34 : Index := Scalar.indexCast arg1
  ![v34.toNat]
@[reducible] def k0_t1_loop : Scf.Loop 32 :=
  let c0_i32 : BitVec 32 := 0#32
  let c16_i32 : BitVec 32 := 16#32
  let v43 : BitVec 32 := Scalar.addi c0_i32 c16_i32
  let c1_i32 : BitVec 32 := 1#32
  ⟨c0_i32, v43, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32 : BitVec 32 := 128#32
  let v45 : BitVec 32 := Scalar.muli arg17 c128_i32
  v45
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c128_i32 : BitVec 32 := 128#32
  let v45 : BitVec 32 := Scalar.muli arg17 c128_i32
  let v46 : BitVec 32 := v45
  let v47 : Index := Scalar.indexCast v46
  let c0_24 : Index := 0#32
  ![v47.toNat, 0]
def k0_off3 (k0_t1 : Fin k0_t1_loop.trips) : Fin 3 → Nat :=
  let c0_47 : Index := 0#32
  let c0_i32 : BitVec 32 := 0#32
  let c1_i32 : BitVec 32 := 1#32
  let arg17 : BitVec 32 := Scf.iv c0_i32 c1_i32 k0_t1
  let c128_i32 : BitVec 32 := 128#32
  let v45 : BitVec 32 := Scalar.muli arg17 c128_i32
  let v46 : BitVec 32 := v45
  let v155 : Index := Scalar.indexCast v46
  let c0_48 : Index := 0#32
  ![0, v155.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== GdnIdeal.lean ====
variable {F : FTy → Type} [FloatOps F] [Named F]
def κ : String → Option EReal := fun
  | "mask" => some ⊥
  | _ => none
-- ==== GdnRefIdeal.lean ====
abbrev S8x2048x4096 : Shape := ⟨3, ![8, 2048, 4096]⟩
abbrev S8x2048x128 : Shape := ⟨3, ![8, 2048, 128]⟩
abbrev S4x3072 : Shape := ⟨2, ![4, 3072]⟩
abbrev S8 : Shape := ⟨1, ![8]⟩
abbrev S128 : Shape := ⟨1, ![128]⟩
abbrev S8x2048x3072 : Shape := ⟨3, ![8, 2048, 3072]⟩
abbrev S8x2048x8 : Shape := ⟨3, ![8, 2048, 8]⟩
abbrev S_ : Shape := ⟨0, ![]⟩
abbrev S8x2051x3072 : Shape := ⟨3, ![8, 2051, 3072]⟩
abbrev S1x3072 : Shape := ⟨2, ![1, 3072]⟩
abbrev S3072 : Shape := ⟨1, ![3072]⟩
abbrev S1x1x3072 : Shape := ⟨3, ![1, 1, 3072]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S8x8x2048 : Shape := ⟨3, ![8, 8, 2048]⟩
abbrev S1x1x8 : Shape := ⟨3, ![1, 1, 8]⟩
abbrev S8x8x2048x1 : Shape := ⟨4, ![8, 8, 2048, 1]⟩
abbrev S2048x8x8x128 : Shape := ⟨4, ![2048, 8, 8, 128]⟩
abbrev S2048x8x8 : Shape := ⟨3, ![2048, 8, 8]⟩
abbrev S8x8x128x128 : Shape := ⟨4, ![8, 8, 128, 128]⟩
abbrev S1x8x8x128 : Shape := ⟨4, ![1, 8, 8, 128]⟩
abbrev S8x8x128 : Shape := ⟨3, ![8, 8, 128]⟩
abbrev S1x8x8 : Shape := ⟨3, ![1, 8, 8]⟩
abbrev S8x8 : Shape := ⟨2, ![8, 8]⟩
abbrev S8x8x1x1 : Shape := ⟨4, ![8, 8, 1, 1]⟩
abbrev S8x8x1 : Shape := ⟨3, ![8, 8, 1]⟩
abbrev S8x8x128x1 : Shape := ⟨4, ![8, 8, 128, 1]⟩
abbrev S8x8x1x128 : Shape := ⟨4, ![8, 8, 1, 128]⟩
abbrev S8x2048x8x1 : Shape := ⟨4, ![8, 2048, 8, 1]⟩
abbrev S1x1x1x128 : Shape := ⟨4, ![1, 1, 1, 128]⟩

abbrev nBuf : Space → Nat
  | .hbm => 212
  | .vmem => 0
  | .smem => 0
  | _ => 0

abbrev hbmTy0_0 (i : Nat) : BufTy := match i % 128 with
  | 0 => ⟨S8x2048x4096, .f32⟩
  | 1 => ⟨S8x2048x128, .f32⟩
  | 2 => ⟨S4x3072, .f32⟩
  | 3 => ⟨S8, .f32⟩
  | 4 => ⟨S8, .f32⟩
  | 5 => ⟨S128, .f32⟩
  | 6 => ⟨S8x2048x3072, .f32⟩
  | 7 => ⟨S8x2048x8, .f32⟩
  | 8 => ⟨S8x2048x8, .f32⟩
  | 9 => ⟨S_, .i32⟩
  | 10 => ⟨S_, .f32⟩
  | 11 => ⟨S8x2051x3072, .f32⟩
  | 12 => ⟨S8x2048x3072, .f32⟩
  | 13 => ⟨S1x3072, .f32⟩
  | 14 => ⟨S3072, .f32⟩
  | 15 => ⟨S1x1x3072, .f32⟩
  | 16 => ⟨S8x2048x3072, .f32⟩
  | 17 => ⟨S8x2048x3072, .f32⟩
  | 18 => ⟨S_, .f32⟩
  | 19 => ⟨S8x2048x3072, .f32⟩
  | 20 => ⟨S8x2048x3072, .f32⟩
  | 21 => ⟨S8x2048x3072, .f32⟩
  | 22 => ⟨S1x3072, .f32⟩
  | 23 => ⟨S3072, .f32⟩
  | 24 => ⟨S1x1x3072, .f32⟩
  | 25 => ⟨S8x2048x3072, .f32⟩
  | 26 => ⟨S8x2048x3072, .f32⟩
  | 27 => ⟨S8x2048x3072, .f32⟩
  | 28 => ⟨S8x2048x3072, .f32⟩
  | 29 => ⟨S1x3072, .f32⟩
  | 30 => ⟨S3072, .f32⟩
  | 31 => ⟨S1x1x3072, .f32⟩
  | 32 => ⟨S8x2048x3072, .f32⟩
  | 33 => ⟨S8x2048x3072, .f32⟩
  | 34 => ⟨S8x2048x3072, .f32⟩
  | 35 => ⟨S8x2048x3072, .f32⟩
  | 36 => ⟨S1x3072, .f32⟩
  | 37 => ⟨S3072, .f32⟩
  | 38 => ⟨S1x1x3072, .f32⟩
  | 39 => ⟨S8x2048x3072, .f32⟩
  | 40 => ⟨S8x2048x3072, .f32⟩
  | 41 => ⟨S8x2048x3072, .f32⟩
  | 42 => ⟨S8x2048x3072, .f32⟩
  | 43 => ⟨S8x2048x3072, .f32⟩
  | 44 => ⟨S_, .f32⟩
  | 45 => ⟨S8x2048x3072, .f32⟩
  | 46 => ⟨S8x2048x3072, .f32⟩
  | 47 => ⟨S_, .f32⟩
  | 48 => ⟨S8x2048x3072, .f32⟩
  | 49 => ⟨S8x2048x3072, .f32⟩
  | 50 => ⟨S8x2048x3072, .f32⟩
  | 51 => ⟨S8x2048x1024, .f32⟩
  | 52 => ⟨S8x2048x1024, .f32⟩
  | 53 => ⟨S8x2048x1024, .f32⟩
  | 54 => ⟨S8x2048x8x128, .f32⟩
  | 55 => ⟨S8x8x2048x128, .f32⟩
  | 56 => ⟨S8x2048x8x128, .f32⟩
  | 57 => ⟨S8x8x2048x128, .f32⟩
  | 58 => ⟨S8x2048x8x128, .f32⟩
  | 59 => ⟨S8x8x2048x128, .f32⟩
  | 60 => ⟨S8x2048x8, .f32⟩
  | 61 => ⟨S8x2048x8, .f32⟩
  | 62 => ⟨S_, .f32⟩
  | 63 => ⟨S8x2048x8, .f32⟩
  | 64 => ⟨S8x2048x8, .f32⟩
  | 65 => ⟨S_, .f32⟩
  | 66 => ⟨S8x2048x8, .f32⟩
  | 67 => ⟨S8x2048x8, .f32⟩
  | 68 => ⟨S8x8x2048, .f32⟩
  | 69 => ⟨S8, .f32⟩
  | 70 => ⟨S8, .f32⟩
  | 71 => ⟨S1x1x8, .f32⟩
  | 72 => ⟨S8x2048x8, .f32⟩
  | 73 => ⟨S8x2048x8, .f32⟩
  | 74 => ⟨S_, .f32⟩
  | 75 => ⟨S8x2048x8, .f32⟩
  | 76 => ⟨S8x2048x8, .f32⟩
  | 77 => ⟨S8x2048x8, .f32⟩
  | 78 => ⟨S8x2048x8, .f32⟩
  | 79 => ⟨S8x2048x8, .i1⟩
  | 80 => ⟨S8x2048x8, .f32⟩
  | 81 => ⟨S8x2048x8, .f32⟩
  | 82 => ⟨S8x2048x8, .f32⟩
  | 83 => ⟨S8x2048x8, .f32⟩
  | 84 => ⟨S8x2048x8, .f32⟩
  | 85 => ⟨S8x2048x8, .f32⟩
  | 86 => ⟨S8x2048x8, .f32⟩
  | 87 => ⟨S8x2048x8, .f32⟩
  | 88 => ⟨S1x1x8, .f32⟩
  | 89 => ⟨S8x2048x8, .f32⟩
  | 90 => ⟨S8x2048x8, .f32⟩
  | 91 => ⟨S8x8x2048, .f32⟩
  | 92 => ⟨S8x8x2048x128, .f32⟩
  | 93 => ⟨S_, .f32⟩
  | 94 => ⟨S8x8x2048, .f32⟩
  | 95 => ⟨S8x8x2048x1, .f32⟩
  | 96 => ⟨S_, .f32⟩
  | 97 => ⟨S8x8x2048x1, .f32⟩
  | 98 => ⟨S8x8x2048x1, .f32⟩
  | 99 => ⟨S8x8x2048x1, .f32⟩
  | 100 => ⟨S8x8x2048x128, .f32⟩
  | 101 => ⟨S8x8x2048x128, .f32⟩
  | 102 => ⟨S8x8x2048x128, .f32⟩
  | 103 => ⟨S_, .f32⟩
  | 104 => ⟨S8x8x2048, .f32⟩
  | 105 => ⟨S8x8x2048x1, .f32⟩
  | 106 => ⟨S_, .f32⟩
  | 107 => ⟨S8x8x2048x1, .f32⟩
  | 108 => ⟨S8x8x2048x1, .f32⟩
  | 109 => ⟨S8x8x2048x1, .f32⟩
  | 110 => ⟨S8x8x2048x128, .f32⟩
  | 111 => ⟨S8x8x2048x128, .f32⟩
  | 112 => ⟨S_, .f32⟩
  | 113 => ⟨S8x8x2048x128, .f32⟩
  | 114 => ⟨S8x8x2048x128, .f32⟩
  | 115 => ⟨S2048x8x8x128, .f32⟩
  | 116 => ⟨S2048x8x8x128, .f32⟩
  | 117 => ⟨S2048x8x8x128, .f32⟩
  | 118 => ⟨S2048x8x8, .f32⟩
  | 119 => ⟨S2048x8x8, .f32⟩
  | 120 => ⟨S_, .f32⟩
  | 121 => ⟨S8x8x128x128, .f32⟩
  | 122 => ⟨S_, .f32⟩
  | 123 => ⟨S2048x8x8x128, .f32⟩
  | 124 => ⟨S_, .i32⟩
  | 125 => ⟨S2048x8x8x128, .f32⟩
  | 126 => ⟨S2048x8x8x128, .f32⟩
  | 127 => ⟨S2048x8x8x128, .f32⟩
  | _ => ⟨S8x2048x4096, .f32⟩

abbrev hbmTy0_1 (i : Nat) : BufTy := match i % 128 with
  | 0 => ⟨S2048x8x8, .f32⟩
  | 1 => ⟨S2048x8x8, .f32⟩
  | 2 => ⟨S_, .i32⟩
  | 3 => ⟨S8x8x128x128, .f32⟩
  | 4 => ⟨S2048x8x8x128, .f32⟩
  | 5 => ⟨S_, .i32⟩
  | 6 => ⟨S_, .i1⟩
  | 7 => ⟨S_, .i32⟩
  | 8 => ⟨S_, .i32⟩
  | 9 => ⟨S_, .i32⟩
  | 10 => ⟨S1x8x8x128, .f32⟩
  | 11 => ⟨S8x8x128, .f32⟩
  | 12 => ⟨S_, .i32⟩
  | 13 => ⟨S_, .i32⟩
  | 14 => ⟨S_, .i32⟩
  | 15 => ⟨S1x8x8x128, .f32⟩
  | 16 => ⟨S8x8x128, .f32⟩
  | 17 => ⟨S_, .i32⟩
  | 18 => ⟨S_, .i32⟩
  | 19 => ⟨S_, .i32⟩
  | 20 => ⟨S1x8x8x128, .f32⟩
  | 21 => ⟨S8x8x128, .f32⟩
  | 22 => ⟨S_, .i32⟩
  | 23 => ⟨S_, .i32⟩
  | 24 => ⟨S1x8x8, .f32⟩
  | 25 => ⟨S8x8, .f32⟩
  | 26 => ⟨S_, .i32⟩
  | 27 => ⟨S_, .i32⟩
  | 28 => ⟨S1x8x8, .f32⟩
  | 29 => ⟨S8x8, .f32⟩
  | 30 => ⟨S8x8, .f32⟩
  | 31 => ⟨S8x8x1x1, .f32⟩
  | 32 => ⟨S8x8x128x128, .f32⟩
  | 33 => ⟨S8x8x128x128, .f32⟩
  | 34 => ⟨S8x8x128, .f32⟩
  | 35 => ⟨S8x8x128, .f32⟩
  | 36 => ⟨S8x8x1, .f32⟩
  | 37 => ⟨S8x8x128, .f32⟩
  | 38 => ⟨S8x8x128, .f32⟩
  | 39 => ⟨S8x8x128x1, .f32⟩
  | 40 => ⟨S8x8x1x128, .f32⟩
  | 41 => ⟨S8x8x128x128, .f32⟩
  | 42 => ⟨S8x8x128x128, .f32⟩
  | 43 => ⟨S8x8x128x128, .f32⟩
  | 44 => ⟨S8x8x128x128, .f32⟩
  | 45 => ⟨S8x8x128, .f32⟩
  | 46 => ⟨S1x8x8x128, .f32⟩
  | 47 => ⟨S_, .i32⟩
  | 48 => ⟨S_, .i32⟩
  | 49 => ⟨S_, .i32⟩
  | 50 => ⟨S2048x8x8x128, .f32⟩
  | 51 => ⟨S_, .i32⟩
  | 52 => ⟨S_, .i32⟩
  | 53 => ⟨S8x8x2048x128, .f32⟩
  | 54 => ⟨S8x2048x8x128, .f32⟩
  | 55 => ⟨S8x2048x1024, .f32⟩
  | 56 => ⟨S8x2048x8x128, .f32⟩
  | 57 => ⟨S_, .f32⟩
  | 58 => ⟨S8x2048x8, .f32⟩
  | 59 => ⟨S8x2048x8x1, .f32⟩
  | 60 => ⟨S_, .f32⟩
  | 61 => ⟨S8x2048x8x1, .f32⟩
  | 62 => ⟨S8x2048x8x1, .f32⟩
  | 63 => ⟨S_, .f32⟩
  | 64 => ⟨S8x2048x8x1, .f32⟩
  | 65 => ⟨S8x2048x8x1, .f32⟩
  | 66 => ⟨S8x2048x8x1, .f32⟩
  | 67 => ⟨S8x2048x8x128, .f32⟩
  | 68 => ⟨S8x2048x8x128, .f32⟩
  | 69 => ⟨S1x1x1x128, .f32⟩
  | 70 => ⟨S8x2048x8x128, .f32⟩
  | 71 => ⟨S8x2048x8x128, .f32⟩
  | 72 => ⟨S8x2048x8x128, .f32⟩
  | 73 => ⟨S8x2048x8x128, .f32⟩
  | 74 => ⟨S8x2048x8x128, .f32⟩
  | 75 => ⟨S_, .f32⟩
  | 76 => ⟨S8x2048x8x128, .f32⟩
  | 77 => ⟨S8x2048x8x128, .f32⟩
  | 78 => ⟨S_, .f32⟩
  | 79 => ⟨S8x2048x8x128, .f32⟩
  | 80 => ⟨S8x2048x8x128, .f32⟩
  | 81 => ⟨S8x2048x8x128, .f32⟩
  | 82 => ⟨S8x2048x8x128, .f32⟩
  | 83 => ⟨S8x2048x1024, .f32⟩
  | _ => ⟨S8x2048x4096, .f32⟩

abbrev hbmTy (i : Nat) : BufTy := match i / 128 with
  | 0 => hbmTy0_0 i
  | 1 => hbmTy0_1 i
  | _ => ⟨S8x2048x4096, .f32⟩

abbrev bufTy : (tb : Table) → Fin (tcTables nBuf tb) → BufTy
  | .hbm, ⟨i, _⟩ => hbmTy i
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_0 : Ref sig .tc := ⟨.hbm, 62, rfl⟩
abbrev main_v45 : Ref sig .tc := ⟨.hbm, 63, rfl⟩
abbrev main_v46 : Ref sig .tc := ⟨.hbm, 64, rfl⟩
abbrev main_cst_1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_2 : Ref sig .tc := ⟨.hbm, 93, rfl⟩
abbrev main_v61 : Ref sig .tc := ⟨.hbm, 94, rfl⟩
abbrev main_v62 : Ref sig .tc := ⟨.hbm, 95, rfl⟩
abbrev main_cst_3 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_4 : Ref sig .tc := ⟨.hbm, 103, rfl⟩
abbrev main_v69 : Ref sig .tc := ⟨.hbm, 104, rfl⟩
abbrev main_v70 : Ref sig .tc := ⟨.hbm, 105, rfl⟩
abbrev main_cst_5 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_6 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_7 : Ref sig .tc := ⟨.hbm, 120, rfl⟩
abbrev main_v83 : Ref sig .tc := ⟨.hbm, 121, rfl⟩
abbrev main_cst_8 : Ref sig .tc := ⟨.hbm, 122, rfl⟩
abbrev main_v84 : Ref sig .tc := ⟨.hbm, 123, rfl⟩
abbrev main_c_9 : Ref sig .tc := ⟨.hbm, 124, rfl⟩
abbrev main_v85_0 : Ref sig .tc := ⟨.hbm, 125, rfl⟩
abbrev main_v85_1 : Ref sig .tc := ⟨.hbm, 126, rfl⟩
abbrev main_v85_2 : Ref sig .tc := ⟨.hbm, 127, rfl⟩
abbrev main_v85_3 : Ref sig .tc := ⟨.hbm, 128, rfl⟩
abbrev main_v85_4 : Ref sig .tc := ⟨.hbm, 129, rfl⟩
abbrev main_v85_5 : Ref sig .tc := ⟨.hbm, 130, rfl⟩
abbrev main_v85_6 : Ref sig .tc := ⟨.hbm, 131, rfl⟩
abbrev main_v85_7 : Ref sig .tc := ⟨.hbm, 132, rfl⟩
abbrev main_while0c_c_20 : Ref sig .tc := ⟨.hbm, 133, rfl⟩
abbrev main_while0c_v106 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_call3_c_1 : Ref sig .tc := ⟨.hbm, 137, rfl⟩
abbrev main_while0b_call3_v0 : Ref sig .tc := ⟨.hbm, 138, rfl⟩
abbrev main_while0b_v106 : Ref sig .tc := ⟨.hbm, 139, rfl⟩
abbrev main_while0b_call4_c : Ref sig .tc := ⟨.hbm, 140, rfl⟩
abbrev main_while0b_call4_c_0 : Ref sig .tc := ⟨.hbm, 141, rfl⟩
abbrev main_while0b_call4_c_1 : Ref sig .tc := ⟨.hbm, 142, rfl⟩
abbrev main_while0b_call4_v0 : Ref sig .tc := ⟨.hbm, 143, rfl⟩
abbrev main_while0b_v107 : Ref sig .tc := ⟨.hbm, 144, rfl⟩
abbrev main_while0b_call5_c : Ref sig .tc := ⟨.hbm, 145, rfl⟩
abbrev main_while0b_call5_c_0 : Ref sig .tc := ⟨.hbm, 146, rfl⟩
abbrev main_while0b_call5_c_1 : Ref sig .tc := ⟨.hbm, 147, rfl⟩
abbrev main_while0b_call5_v0 : Ref sig .tc := ⟨.hbm, 148, rfl⟩
abbrev main_while0b_v108 : Ref sig .tc := ⟨.hbm, 149, rfl⟩
abbrev main_while0b_call6_c : Ref sig .tc := ⟨.hbm, 150, rfl⟩
abbrev main_while0b_call6_c_0 : Ref sig .tc := ⟨.hbm, 151, rfl⟩
abbrev main_while0b_call6_v0 : Ref sig .tc := ⟨.hbm, 152, rfl⟩
abbrev main_while0b_v109 : Ref sig .tc := ⟨.hbm, 153, rfl⟩
abbrev main_while0b_call7_c : Ref sig .tc := ⟨.hbm, 154, rfl⟩
abbrev main_while0b_call7_c_0 : Ref sig .tc := ⟨.hbm, 155, rfl⟩
abbrev main_while0b_call7_v0 : Ref sig .tc := ⟨.hbm, 156, rfl⟩
abbrev main_while0b_v110 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_v115 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_call8_c_1 : Ref sig .tc := ⟨.hbm, 177, rfl⟩
abbrev main_while0b_v127 : Ref sig .tc := ⟨.hbm, 178, rfl⟩
abbrev main_while0b_c_20 : Ref sig .tc := ⟨.hbm, 179, rfl⟩
abbrev main_while0b_v128 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_cst_10 : Ref sig .tc := ⟨.hbm, 185, rfl⟩
abbrev main_v90 : Ref sig .tc := ⟨.hbm, 186, rfl⟩
abbrev main_v91 : Ref sig .tc := ⟨.hbm, 187, rfl⟩
abbrev main_cst_11 : Ref sig .tc := ⟨.hbm, 188, rfl⟩
abbrev main_v92 : Ref sig .tc := ⟨.hbm, 189, rfl⟩
abbrev main_v93 : Ref sig .tc := ⟨.hbm, 190, rfl⟩
abbrev main_cst_12 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_call9_v0 : Ref sig .tc := ⟨.hbm, 201, rfl⟩
abbrev main_call9_v1 : Ref sig .tc := ⟨.hbm, 202, rfl⟩
abbrev main_call9_cst : Ref sig .tc := ⟨.hbm, 203, rfl⟩
abbrev main_call9_v2 : Ref sig .tc := ⟨.hbm, 204, rfl⟩
abbrev main_call9_v3 : Ref sig .tc := ⟨.hbm, 205, rfl⟩
abbrev main_call9_cst_0 : Ref sig .tc := ⟨.hbm, 206, rfl⟩
abbrev main_call9_v4 : Ref sig .tc := ⟨.hbm, 207, rfl⟩
abbrev main_call9_v5 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S16384x2048 : Shape := ⟨2, ![16384, 2048]⟩
abbrev S2048 : Shape := ⟨1, ![2048]⟩
abbrev S2048x5632 : Shape := ⟨2, ![2048, 5632]⟩
abbrev S3x5632 : Shape := ⟨2, ![3, 5632]⟩
abbrev S5632 : Shape := ⟨1, ![5632]⟩
abbrev S5632x2048 : Shape := ⟨2, ![5632, 2048]⟩
abbrev S1x2048 : Shape := ⟨2, ![1, 2048]⟩
abbrev S1x5632 : Shape := ⟨2, ![1, 5632]⟩
abbrev S512x2048 : Shape := ⟨2, ![512, 2048]⟩
abbrev S8x2048 : Shape := ⟨2, ![8, 2048]⟩
abbrev S2048x512 : Shape := ⟨2, ![2048, 512]⟩
abbrev S3x512 : Shape := ⟨2, ![3, 512]⟩
abbrev S1x512 : Shape := ⟨2, ![1, 512]⟩
abbrev S520x2048 : Shape := ⟨2, ![520, 2048]⟩
abbrev S8 : Shape := ⟨1, ![8]⟩
abbrev S8x1 : Shape := ⟨2, ![8, 1]⟩
abbrev S512 : Shape := ⟨1, ![512]⟩
abbrev S512x1 : Shape := ⟨2, ![512, 1]⟩
abbrev S520x512 : Shape := ⟨2, ![520, 512]⟩
abbrev S512x512 : Shape := ⟨2, ![512, 512]⟩

abbrev nBuf : Space → Nat
  | .hbm => 15
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S5632x2048, .f32⟩
  | .hbm, ⟨7, _⟩ => ⟨S2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S1x5632, .f32⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S520x2048, .bf16⟩
  | .local _ .vmem, ⟨19, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v48 : BitVec 1 := Scalar.cmpi .eq arg1 c10_i32
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S16384x2048 : Shape := ⟨2, ![16384, 2048]⟩
abbrev S2048 : Shape := ⟨1, ![2048]⟩
abbrev S2048x5632 : Shape := ⟨2, ![2048, 5632]⟩
abbrev S3x5632 : Shape := ⟨2, ![3, 5632]⟩
abbrev S5632 : Shape := ⟨1, ![5632]⟩
abbrev S5632x2048 : Shape := ⟨2, ![5632, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩

abbrev nBuf : Space → Nat
  | .hbm => 85
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S5632x2048, .f32⟩
  | .hbm, ⟨7, _⟩ => ⟨S2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S8x2048x5632, .f32⟩
  | .hbm, ⟨26, _⟩ => ⟨S_, .i32⟩
  | .hbm, ⟨27, _⟩ => ⟨S_, .f32⟩
  | .hbm, ⟨28, _⟩ => ⟨S8x2050x5632, .f32⟩
  | .hbm, ⟨29, _⟩ => ⟨S8x2048x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S_, .f32⟩
  | .hbm, ⟨36, _⟩ => ⟨S8x2048x5632, .f32⟩
  | .hbm, ⟨37, _⟩ => ⟨S8x2048x5632, .f32⟩
  | .hbm, ⟨38, _⟩ => ⟨S8x2048x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S8x2048x5632, .f32⟩
  | .hbm, ⟨50, _⟩ => ⟨S8x2048x5632, .f32⟩
  | .hbm, ⟨51, _⟩ => ⟨S8x2048x5632, .f32⟩
  | .hbm, ⟨52, _⟩ => ⟨S1x1x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S8x2048x5632, .f32⟩
  | .hbm, ⟨57, _⟩ => ⟨S_, .f32⟩
  | .hbm, ⟨58, _⟩ => ⟨S8x2048x5632, .f32⟩
  | .hbm, ⟨59, _⟩ => ⟨S8x2048x5632, .f32⟩
  | .hbm, ⟨60, _⟩ => ⟨S_, .f32⟩
  | .hbm, ⟨61, _⟩ => ⟨S8x2048x5632, .f32⟩
  | .hbm, ⟨62, _⟩ => ⟨S8x2048x5632, .f32⟩
  | .hbm, ⟨63, _⟩ => ⟨S8x2048x5632, .f32⟩
  | .hbm, ⟨64, _⟩ => ⟨S8x2048x5632, .f32⟩
  | .hbm, ⟨65, _⟩ => ⟨S8x2048x5632, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x2048x1, .f32⟩
  | .hbm, ⟨79, _⟩ => ⟨S8x2048x2048, .f32⟩
  | .hbm, ⟨80, _⟩ => ⟨S8x2048x2048, .f32⟩
  | .hbm, ⟨81, _⟩ => ⟨S1x1x2048, .f32⟩
  | .hbm, ⟨82, _⟩ => ⟨S8x2048x2048, .f32⟩
  | .hbm, ⟨83, _⟩ => ⟨S8x2048x2048, .f32⟩
  | .hbm, ⟨84, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== InA.lean ====
abbrev S16384x2048 : Shape := ⟨2, ![16384, 2048]⟩
abbrev S2048 : Shape := ⟨1, ![2048]⟩
abbrev S2048x7184 : Shape := ⟨2, ![2048, 7184]⟩
abbrev S2048x4096 : Shape := ⟨2, ![2048, 4096]⟩
abbrev S1x2048 : Shape := ⟨2, ![1, 2048]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InARefIdeal.lean ====
abbrev S16384x2048 : Shape := ⟨2, ![16384, 2048]⟩
abbrev S2048 : Shape := ⟨1, ![2048]⟩
abbrev S2048x7184 : Shape := ⟨2, ![2048, 7184]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7184 : Shape := ⟨2, ![16384, 7184]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7184, .f32⟩
  | .hbm, ⟨20, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InB.lean ====
abbrev S16384x2048 : Shape := ⟨2, ![16384, 2048]⟩
abbrev S2048 : Shape := ⟨1, ![2048]⟩
abbrev S2048x7184 : Shape := ⟨2, ![2048, 7184]⟩
abbrev S2048x3072 : Shape := ⟨2, ![2048, 3072]⟩
abbrev S1x2048 : Shape := ⟨2, ![1, 2048]⟩
abbrev S16384x3072 : Shape := ⟨2, ![16384, 3072]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S2048x3072, .f32⟩
  | .hbm, ⟨4, _⟩ => ⟨S2048x3072, .bf16⟩
  | .hbm, ⟨5, _⟩ => ⟨S1x2048, .f32⟩
  | .hbm, ⟨6, _⟩ => ⟨S16384x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InBRefIdeal.lean ====
abbrev S16384x2048 : Shape := ⟨2, ![16384, 2048]⟩
abbrev S2048 : Shape := ⟨1, ![2048]⟩
abbrev S2048x7184 : Shape := ⟨2, ![2048, 7184]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7184 : Shape := ⟨2, ![16384, 7184]⟩
abbrev S16384x3072 : Shape := ⟨2, ![16384, 3072]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7184, .f32⟩
  | .hbm, ⟨20, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InBa.lean ====
abbrev S16384x2048 : Shape := ⟨2, ![16384, 2048]⟩
abbrev S2048 : Shape := ⟨1, ![2048]⟩
abbrev S2048x7184 : Shape := ⟨2, ![2048, 7184]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S1x2048, .f32⟩
  | .hbm, ⟨9, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S512x128, .f32⟩
  | .local _ .vmem, ⟨5, _⟩ => ⟨S512x128, .f32⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InBaRefIdeal.lean ====
abbrev S16384x2048 : Shape := ⟨2, ![16384, 2048]⟩
abbrev S2048 : Shape := ⟨1, ![2048]⟩
abbrev S2048x7184 : Shape := ⟨2, ![2048, 7184]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7184 : Shape := ⟨2, ![16384, 7184]⟩
abbrev S16384x16 : Shape := ⟨2, ![16384, 16]⟩
abbrev S16384x128 : Shape := ⟨2, ![16384, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7184, .f32⟩
  | .hbm, ⟨20, _⟩ => ⟨S16384x16, .f32⟩
  | .hbm, ⟨21, _⟩ => ⟨S_, .i32⟩
  | .hbm, ⟨22, _⟩ => ⟨S_, .f32⟩
  | .hbm, ⟨23, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kv.lean ====
abbrev S2048x2048 : Shape := ⟨2, ![2048, 2048]⟩
abbrev S2048 : Shape := ⟨1, ![2048]⟩
abbrev S2048x1024 : Shape := ⟨2, ![2048, 1024]⟩
abbrev S1x2048 : Shape := ⟨2, ![1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S2048x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S2048x2048 : Shape := ⟨2, ![2048, 2048]⟩
abbrev S2048 : Shape := ⟨1, ![2048]⟩
abbrev S2048x1024 : Shape := ⟨2, ![2048, 1024]⟩
abbrev S_ : Shape := ⟨0, ![]⟩
abbrev S2048x1 : Shape := ⟨2, ![2048, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S2048x2048, .f32⟩
  | .hbm, ⟨4, _⟩ => ⟨S1024x2048, .f32⟩
  | .hbm, ⟨5, _⟩ => ⟨S1024x2048, .bf16⟩
  | .hbm, ⟨6, _⟩ => ⟨S1024x2048, .f32⟩
  | .hbm, ⟨7, _⟩ => ⟨S1024x2048, .bf16⟩
  | .hbm, ⟨8, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S2048x2048, .f32⟩
  | .hbm, ⟨4, _⟩ => ⟨S16384x2048, .f32⟩
  | .hbm, ⟨5, _⟩ => ⟨S16384x2048, .f32⟩
  | .hbm, ⟨6, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Xattn.lean ====
abbrev S8x2048x2048 : Shape := ⟨3, ![8, 2048, 2048]⟩
abbrev S2048 : Shape := ⟨1, ![2048]⟩
abbrev S2048x512 : Shape := ⟨2, ![2048, 512]⟩
abbrev S8x256x1024 : Shape := ⟨3, ![8, 256, 1024]⟩
abbrev S512x2048 : Shape := ⟨2, ![512, 2048]⟩
abbrev S1x2048 : Shape := ⟨2, ![1, 2048]⟩
abbrev S1x512x2048 : Shape := ⟨3, ![1, 512, 2048]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S256x128 : Shape := ⟨2, ![256, 128]⟩
abbrev S512x128 : Shape := ⟨2, ![512, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x512, .f32⟩
  | .hbm, ⟨3, _⟩ => ⟨S8x256x1024, .f32⟩
  | .hbm, ⟨4, _⟩ => ⟨S512x2048, .f32⟩
  | .hbm, ⟨5, _⟩ => ⟨S2048x512, .bf16⟩
  | .hbm, ⟨6, _⟩ => ⟨S512x2048, .bf16⟩
  | .hbm, ⟨7, _⟩ => ⟨S1x2048, .f32⟩
  | .hbm, ⟨8, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x512, .bf16⟩
  | .local _ .vmem, ⟨4, _⟩ => ⟨S1x256x1024, .f32⟩
  | .local _ .vmem, ⟨5, _⟩ => ⟨S1x256x1024, .f32⟩
  | .local _ .vmem, ⟨6, _⟩ => ⟨S512x2048, .bf16⟩
  | .local _ .vmem, ⟨7, _⟩ => ⟨S1x512x2048, .f32⟩
  | .local _ .vmem, ⟨8, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XattnRefIdeal.lean ====
abbrev S8x2048x2048 : Shape := ⟨3, ![8, 2048, 2048]⟩
abbrev S2048 : Shape := ⟨1, ![2048]⟩
abbrev S2048x512 : Shape := ⟨2, ![2048, 512]⟩
abbrev S8x256x1024 : Shape := ⟨3, ![8, 256, 1024]⟩
abbrev S512x2048 : Shape := ⟨2, ![512, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x512 : Shape := ⟨3, ![8, 2048, 512]⟩
abbrev S8x2048x4x128 : Shape := ⟨4, ![8, 2048, 4, 128]⟩
abbrev S8x256x512 : Shape := ⟨3, ![8, 256, 512]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x512, .f32⟩
  | .hbm, ⟨3, _⟩ => ⟨S8x256x1024, .f32⟩
  | .hbm, ⟨4, _⟩ => ⟨S512x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x2048x512, .f32⟩
  | .hbm, ⟨22, _⟩ => ⟨S8x2048x4x128, .f32⟩
  | .hbm, ⟨23, _⟩ => ⟨S8x256x512, .f32⟩
  | .hbm, ⟨24, _⟩ => ⟨S8x256x512, .f32⟩
  | .hbm, ⟨25, _⟩ => ⟨S8x256x4x128, .f32⟩
  | .hbm, ⟨26, _⟩ => ⟨S8x256x4x128, .f32⟩
  | .hbm, ⟨27, _⟩ => ⟨S8x4x2048x256, .f32⟩
  | .hbm, ⟨28, _⟩ => ⟨S_, .f32⟩
  | .hbm, ⟨29, _⟩ => ⟨S8x4x2048x256, .f32⟩
  | .hbm, ⟨30, _⟩ => ⟨S8x4x2048x256, .f32⟩
  | .hbm, ⟨31, _⟩ => ⟨S_, .f32⟩
  | .hbm, ⟨32, _⟩ => ⟨S8x4x2048, .f32⟩
  | .hbm, ⟨33, _⟩ => ⟨S_, .f32⟩
  | .hbm, ⟨34, _⟩ => ⟨S8x4x2048, .f32⟩
  | .hbm, ⟨35, _⟩ => ⟨S8x4x2048, .f32⟩
  | .hbm, ⟨36, _⟩ => ⟨S8x4x2048x1, .f32⟩
  | .hbm, ⟨37, _⟩ => ⟨S8x4x2048x256, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x128x2048, .f32⟩
  | .hbm, ⟨46, _⟩ => ⟨S8x2048x4x128, .f32⟩
  | .hbm, ⟨47, _⟩ => ⟨S8x2048x512, .f32⟩
  | .hbm, ⟨48, _⟩ => ⟨S8x2048x2048, .f32⟩
  | .hbm, ⟨49, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.RowMath.lean ====
/- The mathematics of one row, shared by the calls: the normalisation of a row by its root mean square. -/
module

public import Idealize.ShloMosaic.Lib.Pointwise

@[expose] public section

noncomputable section

namespace Cert.RowMath

open Idealize.ShloMosaic

/-- The row `x` divided by its root mean square (with the small constant under the root), times the gain `g`, at column `k`. -/
def rmsRow (x g : Fin 2048 → EReal) (k : Fin 2048) : EReal :=
  x k * Ideal.rsqrt (Ideal.div (∑ j, x j * x j) (Ideal.ofBits FTy.f32 0x45000000#32) + Ideal.ofBits FTy.f32 0x358637BD#32) * g k

/-- Rows and gains that agree give the same normalised row. -/
theorem rmsRow_congr {x x' g g' : Fin 2048 → EReal} (hx : ∀ k, x k = x' k) (hg : ∀ k, g k = g' k) (k : Fin 2048) :
    rmsRow x g k = rmsRow x' g' k := by
  rw [funext hx, funext hg]

/-- The scaled logit of a query row against key `j`. -/
def logit (q : Fin 128 → EReal) (K : Fin 256 → Fin 128 → EReal) (j : Fin 256) : EReal :=
  (∑ d, q d * K j d) * Ideal.ofBits FTy.f32 0x3DB504F3#32

/-- The largest logit of a query row. -/
def top (q : Fin 128 → EReal) (K : Fin 256 → Fin 128 → EReal) : EReal :=
  Finset.fold max (Ideal.ofBits FTy.f32 0xFF800000#32) (logit q K) Finset.univ

/-- Softmax attention of one query row over 256 keys: the sum of one column `V` of the values with the softmax weights. -/
def attn (q : Fin 128 → EReal) (K : Fin 256 → Fin 128 → EReal) (V : Fin 256 → EReal) : EReal :=
  ∑ j, Ideal.div (Ideal.exp (logit q K j - top q K)) (∑ i, Ideal.exp (logit q K i - top q K)) * V j

/-- Queries, keys and values that agree give the same attention. -/
theorem attn_congr {q q' : Fin 128 → EReal} {K K' : Fin 256 → Fin 128 → EReal} {V V' : Fin 256 → EReal}
    (hq : ∀ d, q d = q' d) (hK : ∀ j d, K j d = K' j d) (hV : ∀ j, V j = V' j) : attn q K V = attn q' K' V' := by
  rw [funext hq, funext fun j => funext (hK j), funext hV]

/-- The largest logit is at least the value the maximum starts from. -/
theorem max_top (q : Fin 128 → EReal) (K : Fin 256 → Fin 128 → EReal) :
    max (Ideal.ofBits FTy.f32 0xFF800000#32) (top q K) = top q K :=
  max_eq_right ((Finset.le_fold_max _).2 (Or.inl le_rfl))

/-- The number zero converted to a float is zero. -/
theorem sitofp_zero : FloatOps.sitofp (F := Ideal) FTy.f32 (0#32 : BitVec 32) = (0 : EReal) := by
  show (((0#32 : BitVec 32).toInt : ℝ) : EReal) = 0
  simp

/-- The silu of a number, as the reference writes it. -/
def silu (y : EReal) : EReal := y * Ideal.div 1 (1 + Ideal.exp (-y))

end Cert.RowMath

end
-- ==== Proof.FfnMath.lean ====
/- The convolutional feed-forward part as plain formulas on rows: normalised rows, gate projection, causal taps, activation. -/
module

public import proofs.«01_k».proof.Proof.RowMath

@[expose] public section

noncomputable section

namespace Cert.FfnMath

open Idealize.ShloMosaic Cert.RowMath

variable (x : Fin 16384 → Fin 2048 → EReal) (g : Fin 2048 → EReal) (wg wu : Fin 2048 → Fin 5632 → EReal)
  (cw : Fin 3 → Fin 5632 → EReal) (cb : Fin 5632 → EReal) (wd : Fin 5632 → Fin 2048 → EReal)

/-- The normalised row `R`. -/
def hrow (R : Fin 16384) : Fin 2048 → EReal := rmsRow (x R) g

/-- The gate projection of row `R` at column `f`. -/
def gp (R : Fin 16384) (f : Fin 5632) : EReal := ∑ k, hrow x g R k * wg k f

/-- The gate projection `d` rows earlier in the same sequence of 2048 rows, zero before its start. -/
def tap (d : ℕ) (R : Fin 16384) (f : Fin 5632) : EReal :=
  if d ≤ R.val % 2048 then gp x g wg ⟨R.val - d, by omega⟩ f else 0

/-- The gated activation of row `R` at column `f`. -/
def act (R : Fin 16384) (f : Fin 5632) : EReal :=
  silu (tap x g wg 0 R f * cw 2 f + tap x g wg 1 R f * cw 1 f + tap x g wg 2 R f * cw 0 f + cb f) * ∑ k, hrow x g R k * wu k f

/-- The term of the down projection of row `R` to column `n` at hidden column `q`, zero past the last one. -/
def term (R : Fin 16384) (n : Fin 2048) (q : ℕ) : EReal :=
  if h : q < 5632 then act x g wg wu cw cb R ⟨q, h⟩ * wd ⟨q, h⟩ n else 0

/-- A block of 512 further terms. -/
theorem term_block (R : Fin 16384) (n : Fin 2048) (j : ℕ) :
    (∑ q ∈ Finset.range (512 * (j + 1)), term x g wg wu cw cb wd R n q)
      = (∑ q ∈ Finset.range (512 * j), term x g wg wu cw cb wd R n q) + ∑ q : Fin 512, term x g wg wu cw cb wd R n (512 * j + q.val) := by
  rw [show 512 * (j + 1) = 512 * j + 512 by ring, Finset.sum_range_add, Finset.sum_range (fun i => term x g wg wu cw cb wd R n (512 * j + i))]

/-- All the terms. -/
theorem term_all (R : Fin 16384) (n : Fin 2048) :
    (∑ q ∈ Finset.range (512 * 11), term x g wg wu cw cb wd R n q) = ∑ f : Fin 5632, act x g wg wu cw cb R f * wd f n := by
  rw [Finset.sum_range]
  exact Finset.sum_congr rfl fun f _ => dif_pos f.isLt

end Cert.FfnMath

end
-- ==== Proof.FfnRef.lean ====
/- The convolutional feed-forward part: the reference, element by element. -/
module

public import proofs.«01_k».proof.Defs
public import proofs.«01_k».proof.Proof.RowMath
public import proofs.«01_k».proof.Proof.FfnMath
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pointwise
public import Idealize.ShloMosaic.Lib.Claim

@[expose] public section

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.RowMath Cert.FfnMath

variable (m : (ℓ : Loc nD τ sig) → Buf (Elt Ideal) ℓ) (ρ : Dev nD → PrngReg)

open Cert.FfnRefIdeal.Read

/-- The reference's normalised rows. -/
theorem ref_h (x0 x1) (b : Fin 8) (s n : Fin 2048) :
    val_main_v13 (F := Ideal) x0 x1 (ix3 b s n) = rmsRow (fun k => x0 (ix2 ⟨b.val * 2048 + s.val, by omega⟩ k)) (fun k => x1 (ix1 k)) n := by
  unfold rmsRow
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]

/-- The reference's gate projection. -/
theorem ref_gate (x0 x1 x2) (b : Fin 8) (s : Fin 2048) (f : Fin 5632) :
    val_main_v14 (F := Ideal) x0 x1 x2 (ix3 b s f) = ∑ k : Fin 2048, val_main_v13 (F := Ideal) x0 x1 (ix3 b s k) * x2 (ix2 k f) := by
  pointwise [val_main_v14]

/-- The reference's convolution, bias and silu. -/
theorem ref_conv (x0 x1 x2 x4 x5) (b : Fin 8) (s : Fin 2048) (f : Fin 5632) :
    val_main_v41 (F := Ideal) x0 x1 x2 x4 x5 (ix3 b s f) = silu ((if h : 2 ≤ s.val ∧ s.val - 2 < 2048 then val_main_v14 (F := Ideal) x0 x1 x2 (ix3 b ⟨s.val - 2, h.2⟩ f) else 0) * x4 (ix2 0 f)
      + (if h : 2 ≤ 1 + s.val ∧ 1 + s.val - 2 < 2048 then val_main_v14 (F := Ideal) x0 x1 x2 (ix3 b ⟨1 + s.val - 2, h.2⟩ f) else 0) * x4 (ix2 1 f)
      + val_main_v14 (F := Ideal) x0 x1 x2 (ix3 b s f) * x4 (ix2 2 f) + x5 (ix1 f)) := by
  unfold silu
  pointwise [val_main_c, val_main_call0_v0, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_call1_v0, val_main_call1_v1, val_main_call1_cst, val_main_call1_v2, val_main_call1_v3, val_main_call1_cst_0, val_main_call1_v4, val_main_call1_v5, val_main_v41]
  simp only [sitofp_zero]

/-- The reference's down projection. -/
theorem ref_down (x0 x1 x2 x3 x4 x5 x6) (b : Fin 8) (s : Fin 2048) (n : Fin 2048) :
    val_main_v44 (F := Ideal) x0 x1 x2 x3 x4 x5 x6 (ix3 b s n) = ∑ f : Fin 5632, (val_main_v41 (F := Ideal) x0 x1 x2 x4 x5 (ix3 b s f) * ∑ k : Fin 2048, val_main_v13 (F := Ideal) x0 x1 (ix3 b s k) * x3 (ix2 k f)) * x6 (ix2 f n) := by
  pointwise [val_main_v44, val_main_v43, val_main_v42]

/-- The reference's residual and final normalisation. -/
theorem ref_out (x0 x1 x2 x3 x4 x5 x6 x7) (R : Fin 16384) (n : Fin 2048) :
    val_main_v59 (F := Ideal) x0 x1 x2 x3 x4 x5 x6 x7 (ix2 R n) = rmsRow (fun k => x0 (ix2 R k) + val_main_v44 (F := Ideal) x0 x1 x2 x3 x4 x5 x6 (ix3 ⟨R.val / 2048, by omega⟩ ⟨R.val % 2048, by omega⟩ k)) (fun k => x7 (ix1 k)) n := by
  unfold rmsRow
  pointwise [val_main_v0, val_main_v45, val_main_v46, val_main_cst_3, val_main_v47, val_main_v48, val_main_cst_4, val_main_v49, val_main_v50, val_main_cst_5, val_main_v51, val_main_v52, val_main_v53, val_main_v54, val_main_v55, val_main_v56, val_main_v57, val_main_v58, val_main_v59]

/-- The reference's gate projection of the row `R` of all sequences. -/
theorem ref_gp (x0 x1 x2) (b : Fin 8) (s : Fin 2048) (f : Fin 5632) (R : Fin 16384) (hR : R.val = b.val * 2048 + s.val) :
    val_main_v14 (F := Ideal) x0 x1 x2 (ix3 b s f) = gp (fun R k => x0 (ix2 R k)) (fun k => x1 (ix1 k)) (fun k f => x2 (ix2 k f)) R f := by
  rw [show R = ⟨b.val * 2048 + s.val, by omega⟩ from Fin.ext hR]
  rw [ref_gate]
  exact Finset.sum_congr rfl fun k _ => congrArg (· * x2 (ix2 k f)) (ref_h x0 x1 b s k)

/-- The reference's gated activation. -/
theorem ref_act (x0 x1 x2) (x3 : BufTy.Contents (Elt Ideal) ⟨Cert.FfnRefIdeal.S2048x5632, EltTy.f32⟩) (x4 x5) (b : Fin 8) (s : Fin 2048) (f : Fin 5632) (R : Fin 16384) (hR : R.val = b.val * 2048 + s.val) :
    val_main_v41 (F := Ideal) x0 x1 x2 x4 x5 (ix3 b s f) * ∑ k : Fin 2048, val_main_v13 (F := Ideal) x0 x1 (ix3 b s k) * x3 (ix2 k f)
      = act (fun R k => x0 (ix2 R k)) (fun k => x1 (ix1 k)) (fun k f => x2 (ix2 k f)) (fun k f => x3 (ix2 k f)) (fun d f => x4 (ix2 d f)) (fun f => x5 (ix1 f)) R f := by
  unfold act
  have hs := s.isLt
  have hb := b.isLt
  have hm : R.val % 2048 = s.val := by omega
  refine congrArg₂ (· * ·) ?_ (Finset.sum_congr rfl fun k _ => congrArg (· * x3 (ix2 k f)) ?_)
  · rw [ref_conv]
    refine congrArg silu (congrArg (· + x5 (ix1 f)) ?_)
    have t0 : tap (fun R k => x0 (ix2 R k)) (fun k => x1 (ix1 k)) (fun k f => x2 (ix2 k f)) 0 R f = val_main_v14 (F := Ideal) x0 x1 x2 (ix3 b s f) := by
      unfold tap
      rw [if_pos (Nat.zero_le _)]
      exact (ref_gp x0 x1 x2 b s f _ hR).symm
    have t1 : (if h : 2 ≤ 1 + s.val ∧ 1 + s.val - 2 < 2048 then val_main_v14 (F := Ideal) x0 x1 x2 (ix3 b ⟨1 + s.val - 2, h.2⟩ f) else 0)
        = tap (fun R k => x0 (ix2 R k)) (fun k => x1 (ix1 k)) (fun k f => x2 (ix2 k f)) 1 R f := by
      unfold tap
      by_cases h : 1 ≤ s.val
      · rw [dif_pos ⟨by omega, by omega⟩, if_pos (by omega)]
        exact ref_gp x0 x1 x2 b _ f _ (by dsimp only; omega)
      · rw [dif_neg (by omega), if_neg (by omega)]
    have t2 : (if h : 2 ≤ s.val ∧ s.val - 2 < 2048 then val_main_v14 (F := Ideal) x0 x1 x2 (ix3 b ⟨s.val - 2, h.2⟩ f) else 0)
        = tap (fun R k => x0 (ix2 R k)) (fun k => x1 (ix1 k)) (fun k f => x2 (ix2 k f)) 2 R f := by
      unfold tap
      by_cases h : 2 ≤ s.val
      · rw [dif_pos ⟨h, by omega⟩, if_pos (by omega)]
        exact ref_gp x0 x1 x2 b _ f _ (by dsimp only; omega)
      · rw [dif_neg (by omega), if_neg (by omega)]
    rw [t1, t2, ← t0]
    rw [add_comm (_ + _) (_ * x4 (ix2 2 f)), add_comm (_ * x4 (ix2 0 f)) (_ * x4 (ix2 1 f)), ← add_assoc]
  · rw [show R = ⟨b.val * 2048 + s.val, by omega⟩ from Fin.ext hR]
    exact ref_h x0 x1 b s k

/-- The reference at an element, as the plain formulas. -/
theorem ref_apply (x0 x1 x2 x3 x4 x5 x6 x7) (R : Fin 16384) (n : Fin 2048) :
    val_main_v59 (F := Ideal) x0 x1 x2 x3 x4 x5 x6 x7 (ix2 R n)
      = rmsRow (fun k => x0 (ix2 R k) + ∑ f : Fin 5632, act (fun R k => x0 (ix2 R k)) (fun k => x1 (ix1 k)) (fun k f => x2 (ix2 k f)) (fun k f => x3 (ix2 k f)) (fun d f => x4 (ix2 d f)) (fun f => x5 (ix1 f)) R f * x6 (ix2 f k))
        (fun k => x7 (ix1 k)) n := by
  rw [ref_out]
  refine rmsRow_congr (fun k => congrArg (x0 (ix2 R k) + ·) ?_) (fun _ => rfl) n
  rw [ref_down]
  exact Finset.sum_congr rfl fun f _ => congrArg (· * x6 (ix2 f k)) (ref_act x0 x1 x2 x3 x4 x5 _ _ f R (by dsimp only; omega))

end Cert.FfnIdeal.Hand

end
-- ==== Proof.FfnBlock.lean ====
/- The convolutional feed-forward part: what one grid point of the kernel computes, element by element. -/
module

public import proofs.«01_k».proof.Defs
public import proofs.«01_k».proof.Proof.RowMath
public import proofs.«01_k».proof.Proof.FfnMath
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pointwise
public import Idealize.ShloMosaic.Lib.Claim

@[expose] public section

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.RowMath Cert.FfnMath

variable (m : (ℓ : Loc nD τ sig) → Buf (Elt Ideal) ℓ) (ρ : Dev nD → PrngReg)

/-- The start of a whole block is zero on both axes. -/
theorem hz : (![0, 0] : Fin 2 → Nat) = fun _ => 0 := funext fun a => by fin_cases a <;> rfl

/-- The activation block at an element. -/
theorem pay8_apply (h : FVec Ideal S520x2048 .bf16) (w1 w2 : FVec Ideal S2048x512 .bf16) (cw : FVec Ideal S3x512 .f32) (cb : FVec Ideal S1x512 .f32) (r : Fin 512) (n : Fin 512) :
    k0_pay8 (F := Ideal) h w1 w2 cw cb (ix2 r n) = silu ((∑ x : Fin 2048, h (ix2 ⟨8 + r.val, by omega⟩ x) * w1 (ix2 x n)) * cw (ix2 2 n) +
              (∑ x : Fin 2048, h (ix2 ⟨7 + r.val, by omega⟩ x) * w1 (ix2 x n)) * cw (ix2 1 n) +
            (∑ x : Fin 2048, h (ix2 ⟨6 + r.val, by omega⟩ x) * w1 (ix2 x n)) * cw (ix2 0 n) +
          cb (ix2 0 n)) * ∑ x : Fin 2048, h (ix2 ⟨8 + r.val, by omega⟩ x) * w2 (ix2 x n) := by
  unfold silu
  pointwise [k0_pay8]
  simp only [sub_eq_add_neg, zero_add]

/-- The normalised rows of the block. -/
theorem pay6_apply (x : FVec Ideal S512x2048 .f32) (g : FVec Ideal S1x2048 .f32) (r : Fin 512) (n : Fin 2048) :
    k0_pay6 (F := Ideal) x (k0_pay4 g) (k0_pay5 x) (ix2 r n) = rmsRow (fun k => x (ix2 r k)) (fun k => g (ix2 0 k)) n := by
  unfold rmsRow
  pointwise [k0_pay6, k0_pay4, k0_pay5]

/-- The accumulator's first contents. -/
theorem pay7_apply (r : Fin 512) (n : Fin 2048) : k0_pay7 (F := Ideal) (ix2 r n) = 0 := by
  pointwise [k0_pay7]

/-- One step of the accumulation. -/
theorem pay1_apply (a : FVec Ideal S512x512 .f32) (acc : FVec Ideal S512x2048 .f32) (w : FVec Ideal S512x2048 .bf16) (r : Fin 512) (n : Fin 2048) :
    k0_pay1 (F := Ideal) a acc w (ix2 r n) = acc (ix2 r n) + ∑ k : Fin 512, a (ix2 r k) * w (ix2 k n) := by
  pointwise [k0_pay1]

/-- The residual and the final normalisation. -/
theorem pay2_apply (x y : FVec Ideal S512x2048 .f32) (g : FVec Ideal S1x2048 .f32) (r : Fin 512) (n : Fin 2048) :
    k0_pay2 (F := Ideal) x y g (ix2 r n) = rmsRow (fun k => x (ix2 r k) + y (ix2 r k)) (fun k => g (ix2 0 k)) n := by
  unfold rmsRow
  pointwise [k0_pay2]

/-- The test whether a block is the first of its sequence, read at every block index. -/
theorem first_tile : ∀ i : Fin 32, ∀ a b : EReal, Scalar.select
      (Scalar.cmpi CmpIPredicate.eq
        (Scalar.select
          (Scalar.andi
            (Scalar.xori
              (Scalar.cmpi CmpIPredicate.slt
                (Scalar.remsi (BitVec.ofNat 32 i.val) (Scalar.select (Scalar.cmpi CmpIPredicate.eq 4#32 0#32) 1#32 4#32)) 0#32)
              (Scalar.cmpi CmpIPredicate.slt (Scalar.select (Scalar.cmpi CmpIPredicate.eq 4#32 0#32) 1#32 4#32) 0#32))
            (Scalar.cmpi CmpIPredicate.ne
              (Scalar.remsi (BitVec.ofNat 32 i.val) (Scalar.select (Scalar.cmpi CmpIPredicate.eq 4#32 0#32) 1#32 4#32)) 0#32))
          (Scalar.addi (Scalar.remsi (BitVec.ofNat 32 i.val) (Scalar.select (Scalar.cmpi CmpIPredicate.eq 4#32 0#32) 1#32 4#32))
            (Scalar.select (Scalar.cmpi CmpIPredicate.eq 4#32 0#32) 1#32 4#32))
          (Scalar.remsi (BitVec.ofNat 32 i.val) (Scalar.select (Scalar.cmpi CmpIPredicate.eq 4#32 0#32) 1#32 4#32)))
        0#32) a b = if i.val % 4 = 0 then a else b := by
  intro i a b
  fin_cases i <;> rfl

/-- The normalised rows before the block, zero before a sequence's start. -/
theorem pay3_apply (i : Fin 32) (x : FVec Ideal S8x2048 .f32) (g : FVec Ideal S1x2048 .f32) (r : Fin 8) (n : Fin 2048) :
    k0_pay3 (F := Ideal) (BitVec.ofNat 32 i.val) x g (ix2 r n) = if i.val % 4 = 0 then 0 else rmsRow (fun k => x (ix2 r k)) (fun k => g (ix2 0 k)) n := by
  unfold rmsRow
  pointwise [k0_pay3]
  refine (first_tile i _ _).trans ?_
  rfl

/-- A later point adds its block of hidden columns to the accumulator. -/
theorem soutB1 (c : Dev nD) (i : grid0.Coords) (a2 : Memref sig .tc .vmem S512x2048 .f32) (h2 : a2.IsWhole) (a3 : Memref sig .tc .vmem S8x2048 .f32) (h3 : a3.IsWhole) (a4 : Memref sig .tc .vmem S1x2048 .f32) (h4 : a4.IsWhole) (a5 : Memref sig .tc .vmem S2048x512 .bf16) (h5 : a5.IsWhole) (a6 : Memref sig .tc .vmem S2048x512 .bf16) (h6 : a6.IsWhole) (a7 : Memref sig .tc .vmem S3x512 .f32) (h7 : a7.IsWhole) (a8 : Memref sig .tc .vmem S1x512 .f32) (h8 : a8.IsWhole) (a9 : Memref sig .tc .vmem S512x2048 .bf16) (h9 : a9.IsWhole) (a10 : Memref sig .tc .vmem S1x2048 .f32) (h10 : a10.IsWhole) (a11 : Memref sig .tc .vmem S512x2048 .f32) (h11 : a11.IsWhole) (a12 : Memref sig .tc .vmem S520x2048 .bf16) (h12 : a12.IsWhole) (a13 : Memref sig .tc .vmem S512x2048 .f32) (h13 : a13.IsWhole)
    (hc0 : ¬cond0_0 i) (hc1 : ¬cond0_1 i) (x0 : Vec Ideal S512x2048 .f32) (x1 : Vec Ideal S8x2048 .f32) (x2 : Vec Ideal S1x2048 .f32) (x3 : Vec Ideal S2048x512 .bf16) (x4 : Vec Ideal S2048x512 .bf16) (x5 : Vec Ideal S3x512 .f32) (x6 : Vec Ideal S1x512 .f32) (x7 : Vec Ideal S512x2048 .bf16) (x8 : Vec Ideal S1x2048 .f32) (xs0 : Vec Ideal S520x2048 .bf16) (xs1 : Vec Ideal S512x2048 .f32) :
    sout0_B_1 c i a2 h2 a3 h3 a4 h4 a5 h5 a6 h6 a7 h7 a8 h8 a9 h9 a10 h10 a11 h11 a12 h12 a13 h13 hc0 hc1 x0 x1 x2 x3 x4 x5 x6 x7 x8 xs0 xs1 = k0_pay1 (k0_pay8 xs0 x3 x4 x5 x6) xs1 x7 := by
  unfold sout0_B_1
  rw [View.read_writes_junk_eq_canon]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S512x2048) hz, View.ld_unit_zero (S := S8x2048) hz, View.ld_unit_zero (S := S1x2048) hz, View.ld_unit_zero (S := S2048x512) hz, View.ld_unit_zero (S := S3x512) hz, View.ld_unit_zero (S := S1x512) hz, View.ld_unit_zero (S := S520x2048) hz]

/-- The last point adds its block of hidden columns to the accumulator. -/
theorem soutC1 (c : Dev nD) (i : grid0.Coords) (a2 : Memref sig .tc .vmem S512x2048 .f32) (h2 : a2.IsWhole) (a3 : Memref sig .tc .vmem S8x2048 .f32) (h3 : a3.IsWhole) (a4 : Memref sig .tc .vmem S1x2048 .f32) (h4 : a4.IsWhole) (a5 : Memref sig .tc .vmem S2048x512 .bf16) (h5 : a5.IsWhole) (a6 : Memref sig .tc .vmem S2048x512 .bf16) (h6 : a6.IsWhole) (a7 : Memref sig .tc .vmem S3x512 .f32) (h7 : a7.IsWhole) (a8 : Memref sig .tc .vmem S1x512 .f32) (h8 : a8.IsWhole) (a9 : Memref sig .tc .vmem S512x2048 .bf16) (h9 : a9.IsWhole) (a10 : Memref sig .tc .vmem S1x2048 .f32) (h10 : a10.IsWhole) (a11 : Memref sig .tc .vmem S512x2048 .f32) (h11 : a11.IsWhole) (a12 : Memref sig .tc .vmem S520x2048 .bf16) (h12 : a12.IsWhole) (a13 : Memref sig .tc .vmem S512x2048 .f32) (h13 : a13.IsWhole)
    (hc0 : ¬cond0_0 i) (hc1 : cond0_1 i) (x0 : Vec Ideal S512x2048 .f32) (x1 : Vec Ideal S8x2048 .f32) (x2 : Vec Ideal S1x2048 .f32) (x3 : Vec Ideal S2048x512 .bf16) (x4 : Vec Ideal S2048x512 .bf16) (x5 : Vec Ideal S3x512 .f32) (x6 : Vec Ideal S1x512 .f32) (x7 : Vec Ideal S512x2048 .bf16) (x8 : Vec Ideal S1x2048 .f32) (xs0 : Vec Ideal S520x2048 .bf16) (xs1 : Vec Ideal S512x2048 .f32) :
    sout0_C_1 c i a2 h2 a3 h3 a4 h4 a5 h5 a6 h6 a7 h7 a8 h8 a9 h9 a10 h10 a11 h11 a12 h12 a13 h13 hc0 hc1 x0 x1 x2 x3 x4 x5 x6 x7 x8 xs0 xs1 = k0_pay1 (k0_pay8 xs0 x3 x4 x5 x6) xs1 x7 := by
  unfold sout0_C_1
  rw [View.read_writes_junk_eq_canon]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S512x2048) hz, View.ld_unit_zero (S := S8x2048) hz, View.ld_unit_zero (S := S1x2048) hz, View.ld_unit_zero (S := S2048x512) hz, View.ld_unit_zero (S := S3x512) hz, View.ld_unit_zero (S := S1x512) hz, View.ld_unit_zero (S := S520x2048) hz]

/-- The last point writes the normalised sum of input and accumulator. -/
theorem outC9 (c : Dev nD) (i : grid0.Coords) (a2 : Memref sig .tc .vmem S512x2048 .f32) (h2 : a2.IsWhole) (a3 : Memref sig .tc .vmem S8x2048 .f32) (h3 : a3.IsWhole) (a4 : Memref sig .tc .vmem S1x2048 .f32) (h4 : a4.IsWhole) (a5 : Memref sig .tc .vmem S2048x512 .bf16) (h5 : a5.IsWhole) (a6 : Memref sig .tc .vmem S2048x512 .bf16) (h6 : a6.IsWhole) (a7 : Memref sig .tc .vmem S3x512 .f32) (h7 : a7.IsWhole) (a8 : Memref sig .tc .vmem S1x512 .f32) (h8 : a8.IsWhole) (a9 : Memref sig .tc .vmem S512x2048 .bf16) (h9 : a9.IsWhole) (a10 : Memref sig .tc .vmem S1x2048 .f32) (h10 : a10.IsWhole) (a11 : Memref sig .tc .vmem S512x2048 .f32) (h11 : a11.IsWhole) (a12 : Memref sig .tc .vmem S520x2048 .bf16) (h12 : a12.IsWhole) (a13 : Memref sig .tc .vmem S512x2048 .f32) (h13 : a13.IsWhole)
    (hc0 : ¬cond0_0 i) (hc1 : cond0_1 i) (x0 : Vec Ideal S512x2048 .f32) (x1 : Vec Ideal S8x2048 .f32) (x2 : Vec Ideal S1x2048 .f32) (x3 : Vec Ideal S2048x512 .bf16) (x4 : Vec Ideal S2048x512 .bf16) (x5 : Vec Ideal S3x512 .f32) (x6 : Vec Ideal S1x512 .f32) (x7 : Vec Ideal S512x2048 .bf16) (x8 : Vec Ideal S1x2048 .f32) (xs0 : Vec Ideal S520x2048 .bf16) (xs1 : Vec Ideal S512x2048 .f32) :
    out0_C_9 c i a2 h2 a3 h3 a4 h4 a5 h5 a6 h6 a7 h7 a8 h8 a9 h9 a10 h10 a11 h11 a12 h12 a13 h13 hc0 hc1 x0 x1 x2 x3 x4 x5 x6 x7 x8 xs0 xs1 = k0_pay2 x0 (k0_pay1 (k0_pay8 xs0 x3 x4 x5 x6) xs1 x7) x8 := by
  unfold out0_C_9
  rw [View.read_writes_junk_eq_canon]
  unfold kernelRun0_C
  dsimp only
  sl_unfold_words
  rw [View.canon_unit_zero hz, View.readCov_unit_zero _ hz]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S512x2048) hz, View.ld_unit_zero (S := S8x2048) hz, View.ld_unit_zero (S := S1x2048) hz, View.ld_unit_zero (S := S2048x512) hz, View.ld_unit_zero (S := S3x512) hz, View.ld_unit_zero (S := S1x512) hz, View.ld_unit_zero (S := S520x2048) hz]

/-- The first point leaves the rows before the block and then the block's normalised rows in the carried buffer. -/
theorem soutA0 (c : Dev nD) (i : grid0.Coords) (a2 : Memref sig .tc .vmem S512x2048 .f32) (h2 : a2.IsWhole) (a3 : Memref sig .tc .vmem S8x2048 .f32) (h3 : a3.IsWhole) (a4 : Memref sig .tc .vmem S1x2048 .f32) (h4 : a4.IsWhole) (a5 : Memref sig .tc .vmem S2048x512 .bf16) (h5 : a5.IsWhole) (a6 : Memref sig .tc .vmem S2048x512 .bf16) (h6 : a6.IsWhole) (a7 : Memref sig .tc .vmem S3x512 .f32) (h7 : a7.IsWhole) (a8 : Memref sig .tc .vmem S1x512 .f32) (h8 : a8.IsWhole) (a9 : Memref sig .tc .vmem S512x2048 .bf16) (h9 : a9.IsWhole) (a10 : Memref sig .tc .vmem S1x2048 .f32) (h10 : a10.IsWhole) (a11 : Memref sig .tc .vmem S512x2048 .f32) (h11 : a11.IsWhole) (a12 : Memref sig .tc .vmem S520x2048 .bf16) (h12 : a12.IsWhole) (a13 : Memref sig .tc .vmem S512x2048 .f32) (h13 : a13.IsWhole)
    (hc0 : cond0_0 i) (hc1 : ¬cond0_1 i) (x0 : Vec Ideal S512x2048 .f32) (x1 : Vec Ideal S8x2048 .f32) (x2 : Vec Ideal S1x2048 .f32) (x3 : Vec Ideal S2048x512 .bf16) (x4 : Vec Ideal S2048x512 .bf16) (x5 : Vec Ideal S3x512 .f32) (x6 : Vec Ideal S1x512 .f32) (x7 : Vec Ideal S512x2048 .bf16) (x8 : Vec Ideal S1x2048 .f32) (p : Fin 520) (k : Fin 2048) :
    sout0_A_0 c i a2 h2 a3 h3 a4 h4 a5 h5 a6 h6 a7 h7 a8 h8 a9 h9 a10 h10 a11 h11 a12 h12 a13 h13 hc0 hc1 x0 x1 x2 x3 x4 x5 x6 x7 x8 (ix2 p k)
      = if h : p.val < 8 then k0_pay3 (F := Ideal) (BitVec.ofNat 32 (i 0).val) x1 x2 (ix2 ⟨p.val, h⟩ k) else k0_pay6 (F := Ideal) x0 (k0_pay4 x2) (k0_pay5 x0) (ix2 ⟨p.val - 8, by omega⟩ k) := by
  unfold sout0_A_0
  rw [View.read_writes_junk_eq_canon]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S512x2048) hz, View.ld_unit_zero (S := S8x2048) hz, View.ld_unit_zero (S := S1x2048) hz, View.ld_unit_zero (S := S2048x512) hz, View.ld_unit_zero (S := S3x512) hz, View.ld_unit_zero (S := S1x512) hz, View.ld_unit_zero (S := S520x2048) hz]
  by_cases h : p.val < 8
  · rw [dif_pos h, View.canon_cons_of_not_mem _ _ (by
      rw [Rect.mem_set_unit]
      intro hh
      have h8 : 8 ≤ p.val := (hh (0 : Fin 2)).1
      omega)]
    have e : (ix2 p k : S520x2048.Idx) = (Rect.unit ![0, 0] ![8, 2048] inb_S520x2048_S8x2048_0_0).emb (ix2 (⟨p.val, h⟩ : Fin 8) k) := by
      funext a; apply Fin.ext
      match a with
      | ⟨0, _⟩ => show p.val = 0 + 1 * p.val; omega
      | ⟨1, _⟩ => show k.val = 0 + 1 * k.val; omega
    rw [e]
    exact View.canon_cons_emb _ _ _ _
  · rw [dif_neg h]
    have e : (ix2 p k : S520x2048.Idx) = (Rect.unit ![8, 0] ![512, 2048] inb_S520x2048_S512x2048_8_0).emb (ix2 (⟨p.val - 8, by omega⟩ : Fin 512) k) := by
      funext a; apply Fin.ext
      match a with
      | ⟨0, _⟩ => show p.val = 8 + 1 * (p.val - 8); omega
      | ⟨1, _⟩ => show k.val = 0 + 1 * k.val; omega
    rw [e]
    exact View.canon_cons_emb _ _ _ _

/-- A load of the whole carried buffer reads what the stores left. -/
theorem readCov_whole {sig : RefSig} {κ : Kind} {sp : Space} (v : View sig κ sp S520x2048 .bf16) (L : List (View.Piece (Elt Ideal) S520x2048 .bf16)) :
    v.readCov L (Rect.unit ![0, 0] ![520, 2048] inb_S520x2048_S520x2048_0_0).toLoadRect = View.canon L := by
  rw [View.readCov_eq_canon']
  funext j
  refine congrArg (View.canon L) (funext fun a => Fin.ext ?_)
  match a with
  | ⟨0, _⟩ => show 0 + 1 * (j (0 : Fin 2)).val = (j (0 : Fin 2)).val; omega
  | ⟨1, _⟩ => show 0 + 1 * (j (1 : Fin 2)).val = (j (1 : Fin 2)).val; omega

/-- The first point starts the accumulator with its block of hidden columns. -/
theorem soutA1 (c : Dev nD) (i : grid0.Coords) (a2 : Memref sig .tc .vmem S512x2048 .f32) (h2 : a2.IsWhole) (a3 : Memref sig .tc .vmem S8x2048 .f32) (h3 : a3.IsWhole) (a4 : Memref sig .tc .vmem S1x2048 .f32) (h4 : a4.IsWhole) (a5 : Memref sig .tc .vmem S2048x512 .bf16) (h5 : a5.IsWhole) (a6 : Memref sig .tc .vmem S2048x512 .bf16) (h6 : a6.IsWhole) (a7 : Memref sig .tc .vmem S3x512 .f32) (h7 : a7.IsWhole) (a8 : Memref sig .tc .vmem S1x512 .f32) (h8 : a8.IsWhole) (a9 : Memref sig .tc .vmem S512x2048 .bf16) (h9 : a9.IsWhole) (a10 : Memref sig .tc .vmem S1x2048 .f32) (h10 : a10.IsWhole) (a11 : Memref sig .tc .vmem S512x2048 .f32) (h11 : a11.IsWhole) (a12 : Memref sig .tc .vmem S520x2048 .bf16) (h12 : a12.IsWhole) (a13 : Memref sig .tc .vmem S512x2048 .f32) (h13 : a13.IsWhole)
    (hc0 : cond0_0 i) (hc1 : ¬cond0_1 i) (x0 : Vec Ideal S512x2048 .f32) (x1 : Vec Ideal S8x2048 .f32) (x2 : Vec Ideal S1x2048 .f32) (x3 : Vec Ideal S2048x512 .bf16) (x4 : Vec Ideal S2048x512 .bf16) (x5 : Vec Ideal S3x512 .f32) (x6 : Vec Ideal S1x512 .f32) (x7 : Vec Ideal S512x2048 .bf16) (x8 : Vec Ideal S1x2048 .f32) :
    sout0_A_1 c i a2 h2 a3 h3 a4 h4 a5 h5 a6 h6 a7 h7 a8 h8 a9 h9 a10 h10 a11 h11 a12 h12 a13 h13 hc0 hc1 x0 x1 x2 x3 x4 x5 x6 x7 x8 = k0_pay1 (k0_pay8 (sout0_A_0 c i a2 h2 a3 h3 a4 h4 a5 h5 a6 h6 a7 h7 a8 h8 a9 h9 a10 h10 a11 h11 a12 h12 a13 h13 hc0 hc1 x0 x1 x2 x3 x4 x5 x6 x7 x8) x3 x4 x5 x6) (k0_pay7 (F := Ideal)) x7 := by
  unfold sout0_A_1 sout0_A_0
  rw [View.read_writes_junk_eq_canon, View.read_writes_junk_eq_canon]
  unfold kernelRun0_A
  dsimp only
  sl_unfold_words
  first | rw [View.canon_unit_zero hz] | rw [View.canon_cons_unit_zero (S := S512x2048) hz]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S512x2048) hz, View.ld_unit_zero (S := S8x2048) hz, View.ld_unit_zero (S := S1x2048) hz, View.ld_unit_zero (S := S2048x512) hz, View.ld_unit_zero (S := S3x512) hz, View.ld_unit_zero (S := S1x512) hz, View.ld_unit_zero (S := S520x2048) hz]
  rw [View.readCov_unit_zero (S := S512x2048) _ hz, readCov_whole]

end Cert.FfnIdeal.Hand

end
-- ==== Proof.FfnValue.lean ====
/- The convolutional feed-forward part: what the carried buffers and the result array hold, and that it is the reference's value. -/
module

public import proofs.«01_k».proof.Defs
public import proofs.«01_k».proof.Proof.RowMath
public import proofs.«01_k».proof.Proof.FfnMath
public import proofs.«01_k».proof.Proof.FfnRef
public import proofs.«01_k».proof.Proof.FfnBlock
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pointwise
public import Idealize.ShloMosaic.Lib.Claim

@[expose] public section

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.RowMath Cert.FfnMath

variable (m : (ℓ : Loc nD τ sig) → Buf (Elt Ideal) ℓ) (ρ : Dev nD → PrngReg)

/-- The input rows. -/
abbrev aX (c : Dev nD) : Fin 16384 → Fin 2048 → EReal := fun R k => m ((c : Thread nD τ).loc main_arg0) (ix2 R k)
/-- The gain of the first normalisation. -/
abbrev aG (c : Dev nD) : Fin 2048 → EReal := fun k => m ((c : Thread nD τ).loc main_arg1) (ix1 k)
/-- The gate weight. -/
abbrev aWg (c : Dev nD) : Fin 2048 → Fin 5632 → EReal := fun k f => m ((c : Thread nD τ).loc main_arg2) (ix2 k f)
/-- The up weight. -/
abbrev aWu (c : Dev nD) : Fin 2048 → Fin 5632 → EReal := fun k f => m ((c : Thread nD τ).loc main_arg3) (ix2 k f)
/-- The taps of the convolution. -/
abbrev aCw (c : Dev nD) : Fin 3 → Fin 5632 → EReal := fun d f => m ((c : Thread nD τ).loc main_arg4) (ix2 d f)
/-- The bias of the convolution. -/
abbrev aCb (c : Dev nD) : Fin 5632 → EReal := fun f => m ((c : Thread nD τ).loc main_arg5) (ix1 f)
/-- The down weight. -/
abbrev aWd (c : Dev nD) : Fin 5632 → Fin 2048 → EReal := fun f n => m ((c : Thread nD τ).loc main_arg6) (ix2 f n)
/-- The gain of the final normalisation. -/
abbrev aFg (c : Dev nD) : Fin 2048 → EReal := fun k => m ((c : Thread nD τ).loc main_arg7) (ix1 k)

/-- The gate weight the launch prepares is the argument. -/
theorem V_wg (c : Dev nD) (k : Fin 2048) (n : Fin 5632) : V m c main_v0 (ix2 k n) = m ((c : Thread nD τ).loc main_arg2) (ix2 k n) := by
  entry_read
  pointwise []
  try rfl

/-- The up weight the launch prepares is the argument. -/
theorem V_wu (c : Dev nD) (k : Fin 2048) (n : Fin 5632) : V m c main_v1 (ix2 k n) = m ((c : Thread nD τ).loc main_arg3) (ix2 k n) := by
  entry_read
  pointwise []
  try rfl

/-- The down weight the launch prepares is the argument. -/
theorem V_wd (c : Dev nD) (k : Fin 5632) (n : Fin 2048) : V m c main_v2 (ix2 k n) = m ((c : Thread nD τ).loc main_arg6) (ix2 k n) := by
  entry_read
  pointwise []
  try rfl

/-- The first gain the launch prepares is the argument as one row. -/
theorem V_g (c : Dev nD) (n : Fin 2048) : V m c main_v3 (ix2 0 n) = m ((c : Thread nD τ).loc main_arg1) (ix1 n) := by
  entry_read
  pointwise []
  try rfl

/-- The bias the launch prepares is the argument as one row. -/
theorem V_cb (c : Dev nD) (n : Fin 5632) : V m c main_v4 (ix2 0 n) = m ((c : Thread nD τ).loc main_arg5) (ix1 n) := by
  entry_read
  pointwise []
  try rfl

/-- The final gain the launch prepares is the argument as one row. -/
theorem V_fg (c : Dev nD) (n : Fin 2048) : V m c main_v5 (ix2 0 n) = m ((c : Thread nD τ).loc main_arg7) (ix1 n) := by
  entry_read
  pointwise []
  try rfl

/-- The block index of window 0 at a grid point. -/
theorem idx0 : ∀ t : Fin cfg0.N, win0_0.index t (0 : Fin 2) = t.val / 11 ∧ win0_0.index t (1 : Fin 2) = 0 :=
  (by decide +kernel : ∀ t : Fin grid0.N, _)

/-- The block index of window 1 at a grid point. -/
theorem idx1 : ∀ t : Fin cfg0.N, win0_1.index t (0 : Fin 2) = (t.val / 11 * 64 - 1) ∧ win0_1.index t (1 : Fin 2) = 0 :=
  (by decide +kernel : ∀ t : Fin grid0.N, _)

/-- The block index of window 2 at a grid point. -/
theorem idx2 : ∀ t : Fin cfg0.N, win0_2.index t (0 : Fin 2) = 0 ∧ win0_2.index t (1 : Fin 2) = 0 :=
  (by decide +kernel : ∀ t : Fin grid0.N, _)

/-- The block index of window 3 at a grid point. -/
theorem idx3 : ∀ t : Fin cfg0.N, win0_3.index t (0 : Fin 2) = 0 ∧ win0_3.index t (1 : Fin 2) = t.val % 11 :=
  (by decide +kernel : ∀ t : Fin grid0.N, _)

/-- The block index of window 4 at a grid point. -/
theorem idx4 : ∀ t : Fin cfg0.N, win0_4.index t (0 : Fin 2) = 0 ∧ win0_4.index t (1 : Fin 2) = t.val % 11 :=
  (by decide +kernel : ∀ t : Fin grid0.N, _)

/-- The block index of window 5 at a grid point. -/
theorem idx5 : ∀ t : Fin cfg0.N, win0_5.index t (0 : Fin 2) = 0 ∧ win0_5.index t (1 : Fin 2) = t.val % 11 :=
  (by decide +kernel : ∀ t : Fin grid0.N, _)

/-- The block index of window 6 at a grid point. -/
theorem idx6 : ∀ t : Fin cfg0.N, win0_6.index t (0 : Fin 2) = 0 ∧ win0_6.index t (1 : Fin 2) = t.val % 11 :=
  (by decide +kernel : ∀ t : Fin grid0.N, _)

/-- The block index of window 7 at a grid point. -/
theorem idx7 : ∀ t : Fin cfg0.N, win0_7.index t (0 : Fin 2) = t.val % 11 ∧ win0_7.index t (1 : Fin 2) = 0 :=
  (by decide +kernel : ∀ t : Fin grid0.N, _)

/-- The block index of window 8 at a grid point. -/
theorem idx8 : ∀ t : Fin cfg0.N, win0_8.index t (0 : Fin 2) = 0 ∧ win0_8.index t (1 : Fin 2) = 0 :=
  (by decide +kernel : ∀ t : Fin grid0.N, _)

/-- The block index of window 9 at a grid point. -/
theorem idx9 : ∀ t : Fin cfg0.N, win0_9.index t (0 : Fin 2) = t.val / 11 ∧ win0_9.index t (1 : Fin 2) = 0 :=
  (by decide +kernel : ∀ t : Fin grid0.N, _)

/-- The first coordinate of a grid point. -/
theorem coord0 : ∀ t : Fin cfg0.N, ((grid0.coords t) 0).val = t.val / 11 :=
  (by decide +kernel : ∀ t : Fin grid0.N, _)

/-- The points whose output block is written back. -/
theorem flush9 : ∀ t : Fin cfg0.N, (cfg0.win 9).flush t = true ↔ t.val % 11 = 10 :=
  (by decide +kernel : ∀ t : Fin grid0.N, _)

/-- The input rows staged at a point. -/
theorem iblk0_apply (c : Dev nD) (t : Fin cfg0.N) (r : Fin 512) (k : Fin 2048) (R : Fin 16384) (hR : R.val = t.val / 11 * 512 + r.val) :
    (iblk m c 0 t : S512x2048.Idx → EReal) (ix2 r k) = aX m c R k := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The eight rows before the block staged at a point that does not begin a sequence. -/
theorem iblk1_apply (c : Dev nD) (t : Fin cfg0.N) (r : Fin 8) (k : Fin 2048) (R : Fin 16384) (hi : t.val / 11 % 4 ≠ 0) (hR : R.val + 8 = 512 * (t.val / 11) + r.val) :
    (iblk m c 1 t : S8x2048.Idx → EReal) (ix2 r k) = aX m c R k := by
  obtain ⟨e0, e1⟩ := idx1 t
  show V m c main_arg0 (((cfg0.win 1).blk t).view.emb (ix2 r k)) = _
  rw [V_main_arg0]
  refine congrArg _ (funext fun a => Fin.ext ?_)
  match a with
  | ⟨0, _⟩ => show win0_1.index t (0 : Fin 2) * 8 + 1 * r.val = R.val; omega
  | ⟨1, _⟩ => show win0_1.index t (1 : Fin 2) * 2048 + 1 * k.val = k.val; omega

/-- The first gain staged at a point. -/
theorem iblk2_apply (c : Dev nD) (t : Fin cfg0.N) (k : Fin 2048) :
    (iblk m c 2 t : S1x2048.Idx → EReal) (ix2 0 k) = aG m c k := by
  obtain ⟨e0, e1⟩ := idx2 t
  show _ = m ((c : Thread nD τ).loc main_arg1) (ix1 k); rw [← V_g m c]
  show V m c main_v3 (((cfg0.win 2).blk t).view.emb (ix2 0 k)) = _
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * k.val = k.val; omega

/-- The gate weight block staged at a point. -/
theorem iblk3_apply (c : Dev nD) (t : Fin cfg0.N) (k : Fin 2048) (n : Fin 512) (f : Fin 5632) (hf : f.val = 512 * (t.val % 11) + n.val) :
    (iblk m c 3 t : S2048x512.Idx → EReal) (ix2 k n) = aWg m c k f := by
  obtain ⟨e0, e1⟩ := idx3 t
  show _ = m ((c : Thread nD τ).loc main_arg2) (ix2 k f); rw [← V_wg m c]
  show V m c main_v0 (((cfg0.win 3).blk t).view.emb (ix2 k n)) = _
  refine congrArg _ (funext fun a => Fin.ext ?_)
  match a with
  | ⟨0, _⟩ => show win0_3.index t (0 : Fin 2) * 2048 + 1 * k.val = k.val; omega
  | ⟨1, _⟩ => show win0_3.index t (1 : Fin 2) * 512 + 1 * n.val = f.val; omega

/-- The up weight block staged at a point. -/
theorem iblk4_apply (c : Dev nD) (t : Fin cfg0.N) (k : Fin 2048) (n : Fin 512) (f : Fin 5632) (hf : f.val = 512 * (t.val % 11) + n.val) :
    (iblk m c 4 t : S2048x512.Idx → EReal) (ix2 k n) = aWu m c k f := by
  obtain ⟨e0, e1⟩ := idx4 t
  show _ = m ((c : Thread nD τ).loc main_arg3) (ix2 k f); rw [← V_wu m c]
  show V m c main_v1 (((cfg0.win 4).blk t).view.emb (ix2 k n)) = _
  refine congrArg _ (funext fun a => Fin.ext ?_)
  match a with
  | ⟨0, _⟩ => show win0_4.index t (0 : Fin 2) * 2048 + 1 * k.val = k.val; omega
  | ⟨1, _⟩ => show win0_4.index t (1 : Fin 2) * 512 + 1 * n.val = f.val; omega

/-- The taps staged at a point. -/
theorem iblk5_apply (c : Dev nD) (t : Fin cfg0.N) (d : Fin 3) (n : Fin 512) (f : Fin 5632) (hf : f.val = 512 * (t.val % 11) + n.val) :
    (iblk m c 5 t : S3x512.Idx → EReal) (ix2 d n) = aCw m c d f := by
  obtain ⟨e0, e1⟩ := idx5 t
  show V m c main_arg4 (((cfg0.win 5).blk t).view.emb (ix2 d n)) = _
  rw [V_main_arg4]
  refine congrArg _ (funext fun a => Fin.ext ?_)
  match a with
  | ⟨0, _⟩ => show win0_5.index t (0 : Fin 2) * 3 + 1 * d.val = d.val; omega
  | ⟨1, _⟩ => show win0_5.index t (1 : Fin 2) * 512 + 1 * n.val = f.val; omega

/-- The bias staged at a point. -/
theorem iblk6_apply (c : Dev nD) (t : Fin cfg0.N) (n : Fin 512) (f : Fin 5632) (hf : f.val = 512 * (t.val % 11) + n.val) :
    (iblk m c 6 t : S1x512.Idx → EReal) (ix2 0 n) = aCb m c f := by
  obtain ⟨e0, e1⟩ := idx6 t
  show _ = m ((c : Thread nD τ).loc main_arg5) (ix1 f); rw [← V_cb m c]
  show V m c main_v4 (((cfg0.win 6).blk t).view.emb (ix2 0 n)) = _
  refine congrArg _ (funext fun a => Fin.ext ?_)
  match a with
  | ⟨0, _⟩ => show win0_6.index t (0 : Fin 2) * 1 + 1 * 0 = 0; omega
  | ⟨1, _⟩ => show win0_6.index t (1 : Fin 2) * 512 + 1 * n.val = f.val; omega

/-- The down weight block staged at a point. -/
theorem iblk7_apply (c : Dev nD) (t : Fin cfg0.N) (n : Fin 512) (k : Fin 2048) (f : Fin 5632) (hf : f.val = 512 * (t.val % 11) + n.val) :
    (iblk m c 7 t : S512x2048.Idx → EReal) (ix2 n k) = aWd m c f k := by
  obtain ⟨e0, e1⟩ := idx7 t
  show _ = m ((c : Thread nD τ).loc main_arg6) (ix2 f k); rw [← V_wd m c]
  show V m c main_v2 (((cfg0.win 7).blk t).view.emb (ix2 n k)) = _
  refine congrArg _ (funext fun a => Fin.ext ?_)
  match a with
  | ⟨0, _⟩ => show win0_7.index t (0 : Fin 2) * 512 + 1 * n.val = f.val; omega
  | ⟨1, _⟩ => show win0_7.index t (1 : Fin 2) * 2048 + 1 * k.val = k.val; omega

/-- The final gain staged at a point. -/
theorem iblk8_apply (c : Dev nD) (t : Fin cfg0.N) (k : Fin 2048) :
    (iblk m c 8 t : S1x2048.Idx → EReal) (ix2 0 k) = aFg m c k := by
  obtain ⟨e0, e1⟩ := idx8 t
  show _ = m ((c : Thread nD τ).loc main_arg7) (ix1 k); rw [← V_fg m c]
  show V m c main_v5 (((cfg0.win 8).blk t).view.emb (ix2 0 k)) = _
  refine congrArg _ (funext fun a => Fin.ext ?_)
  match a with
  | ⟨0, _⟩ => show win0_8.index t (0 : Fin 2) * 1 + 1 * 0 = 0; omega
  | ⟨1, _⟩ => show win0_8.index t (1 : Fin 2) * 2048 + 1 * k.val = k.val; omega

/-- The carried rows `h` of the block of rows `i`: zero before a sequence's start, else normalised rows, eight rows early. -/
def HP (c : Dev nD) (i : ℕ) (h : S520x2048.Idx → EReal) : Prop :=
  ∀ (p : Fin 520) (k : Fin 2048), (i % 4 = 0 ∧ p.val < 8 → h (ix2 p k) = 0)
    ∧ ∀ Q : Fin 16384, Q.val + 8 = 512 * i + p.val → ¬(i % 4 = 0 ∧ p.val < 8) → h (ix2 p k) = hrow (aX m c) (aG m c) Q k

/-- A row of the carried rows times a gate column is a tap of the convolution. -/
theorem tap_eq (c : Dev nD) (i : ℕ) (h : S520x2048.Idx → EReal) (hH : HP m c i h) (w : Fin 2048 → EReal) (f : Fin 5632) (hw : ∀ k, w k = aWg m c k f)
    (r : Fin 512) (R : Fin 16384) (hR : R.val = i * 512 + r.val) (d : ℕ) (hd2 : d ≤ 2) (p : Fin 520) (hp : p.val + d = 8 + r.val) :
    (∑ k : Fin 2048, h (ix2 p k) * w k) = tap (aX m c) (aG m c) (aWg m c) d R f := by
  have hr := r.isLt
  unfold tap
  by_cases hd : d ≤ R.val % 2048
  · rw [if_pos hd]
    exact Finset.sum_congr rfl fun k _ => congrArg₂ (· * ·) ((hH p k).2 ⟨R.val - d, by omega⟩ (by dsimp only; omega) (by omega)) (hw k)
  · rw [if_neg hd]
    refine Finset.sum_eq_zero fun k _ => ?_
    rw [(hH p k).1 (by omega), zero_mul]

/-- The activation block at an element. -/
theorem act_eq (c : Dev nD) (t : Fin cfg0.N) (h : FVec Ideal S520x2048 .bf16) (hH : HP m c (t.val / 11) h)
    (r n : Fin 512) (R : Fin 16384) (hR : R.val = t.val / 11 * 512 + r.val) (f : Fin 5632) (hf : f.val = 512 * (t.val % 11) + n.val) :
    k0_pay8 (F := Ideal) h (iblk m c 3 t) (iblk m c 4 t) (iblk m c 5 t) (iblk m c 6 t) (ix2 r n)
      = act (aX m c) (aG m c) (aWg m c) (aWu m c) (aCw m c) (aCb m c) R f := by
  have hg : ∀ k, (iblk m c 3 t : S2048x512.Idx → EReal) (ix2 k n) = aWg m c k f := fun k => iblk3_apply m c t k n f hf
  rw [pay8_apply]
  unfold act
  refine congrArg₂ (· * ·) (congrArg silu (congrArg₂ (· + ·) (congrArg₂ (· + ·) (congrArg₂ (· + ·) (congrArg₂ (· * ·) ?_ ?_) (congrArg₂ (· * ·) ?_ ?_)) (congrArg₂ (· * ·) ?_ ?_)) ?_)) ?_
  · exact tap_eq m c _ h hH _ f hg r R hR 0 (by omega) _ (by dsimp only; omega)
  · exact iblk5_apply m c t 2 n f hf
  · exact tap_eq m c _ h hH _ f hg r R hR 1 (by omega) _ (by dsimp only; omega)
  · exact iblk5_apply m c t 1 n f hf
  · exact tap_eq m c _ h hH _ f hg r R hR 2 (by omega) _ (by dsimp only; omega)
  · exact iblk5_apply m c t 0 n f hf
  · exact iblk6_apply m c t n f hf
  · have hr := r.isLt
    exact Finset.sum_congr rfl fun k _ => congrArg₂ (· * ·) ((hH _ k).2 R (by dsimp only; omega) (by dsimp only; omega)) (iblk4_apply m c t k n f hf)

/-- The term of the down projection at this run's arguments. -/
abbrev tm (c : Dev nD) (R : Fin 16384) (n : Fin 2048) (q : ℕ) : EReal :=
  term (aX m c) (aG m c) (aWg m c) (aWu m c) (aCw m c) (aCb m c) (aWd m c) R n q

/-- One step of the accumulation adds the point's block of 512 terms. -/
theorem step_eq (c : Dev nD) (t : Fin cfg0.N) (h : FVec Ideal S520x2048 .bf16) (hH : HP m c (t.val / 11) h) (acc : FVec Ideal S512x2048 .f32)
    (r : Fin 512) (n : Fin 2048) (R : Fin 16384) (hR : R.val = t.val / 11 * 512 + r.val)
    (hacc : acc (ix2 r n) = ∑ q ∈ Finset.range (512 * (t.val % 11)), tm m c R n q) :
    k0_pay1 (F := Ideal) (k0_pay8 (F := Ideal) h (iblk m c 3 t) (iblk m c 4 t) (iblk m c 5 t) (iblk m c 6 t)) acc (iblk m c 7 t) (ix2 r n)
      = ∑ q ∈ Finset.range (512 * (t.val % 11 + 1)), tm m c R n q := by
  rw [pay1_apply, hacc, term_block]
  refine congrArg₂ (· + ·) rfl (Finset.sum_congr rfl fun k _ => ?_)
  have hk : 512 * (t.val % 11) + k.val < 5632 := by omega
  unfold term
  rw [dif_pos hk]
  exact congrArg₂ (· * ·) (act_eq m c t h hH r k R hR ⟨_, hk⟩ rfl) (iblk7_apply m c t k n ⟨_, hk⟩ rfl)

/-- After every point: the carried rows, and the terms summed so far. -/
theorem state (c : Dev nD) (n : ℕ) : ∀ t : Fin cfg0.N, t.val = n →
    HP m c (t.val / 11) (outsAt0 m c t.val t.isLt).2.1
    ∧ ∀ (r : Fin 512) (k : Fin 2048) (R : Fin 16384), R.val = t.val / 11 * 512 + r.val →
      ((outsAt0 m c t.val t.isLt).2.2 : S512x2048.Idx → EReal) (ix2 r k) = ∑ q ∈ Finset.range (512 * (t.val % 11 + 1)), tm m c R k q := by
  induction n using Nat.strong_induction_on with
  | _ n ih =>
    intro t htn
    have hN : t.val < 352 := lt_of_lt_of_eq t.isLt N_0
    by_cases h0 : t.val % 11 = 0
    · have h1 : ¬t.val % 11 = 10 := by omega
      rw [outsAt0_A m c t h0 h1]
      dsimp only
      have hH : HP m c (t.val / 11) (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
          ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
        intro p k
        rw [soutA0, coord0 t]
        have hi : t.val / 11 < 32 := by omega
        constructor
        · rintro ⟨a, b⟩
          rw [dif_pos b]
          refine (pay3_apply ⟨t.val / 11, hi⟩ _ _ _ k).trans ?_
          exact if_pos a
        · intro Q hQ hn
          by_cases b : p.val < 8
          · rw [dif_pos b]
            refine (pay3_apply ⟨t.val / 11, hi⟩ _ _ _ k).trans ?_
            refine (if_neg (fun a => hn ⟨a, b⟩)).trans ?_
            exact rmsRow_congr (fun k => iblk1_apply m c t ⟨p.val, b⟩ k Q (fun a => hn ⟨a, b⟩) hQ) (fun k => iblk2_apply m c t k) k
          · rw [dif_neg b, pay6_apply]
            exact rmsRow_congr (fun k => iblk0_apply m c t ⟨p.val - 8, by omega⟩ k Q (by dsimp only; omega)) (fun k => iblk2_apply m c t k) k
      refine ⟨hH, fun r k R hR => ?_⟩
      rw [soutA1]
      refine step_eq m c t _ hH _ r k R hR ?_
      rw [pay7_apply, h0]
      rfl
    · have hlt : t.val - 1 < cfg0.N := Nat.lt_of_le_of_lt (Nat.sub_le _ _) t.isLt
      obtain ⟨ihH, ihA⟩ := ih (t.val - 1) (by omega) ⟨t.val - 1, hlt⟩ rfl
      have hd : (t.val - 1) / 11 = t.val / 11 := by omega
      have hm : (t.val - 1) % 11 + 1 = t.val % 11 := by omega
      dsimp only at ihH ihA
      rw [hd] at ihH ihA
      rw [hm] at ihA
      by_cases h1 : t.val % 11 = 10
      · rw [outsAt0_C m c t h0 h1]
        dsimp only
        refine ⟨ihH, fun r k R hR => ?_⟩
        rw [soutC1]
        exact step_eq m c t _ ihH _ r k R hR (ihA r k R hR)
      · rw [outsAt0_B m c t h0 h1]
        dsimp only
        refine ⟨ihH, fun r k R hR => ?_⟩
        rw [soutB1]
        exact step_eq m c t _ ihH _ r k R hR (ihA r k R hR)

/-- At the last point of a row of blocks the output block is the normalised sum of input and accumulator. -/
theorem out_eq (c : Dev nD) (t : Fin cfg0.N) (h1 : t.val % 11 = 10) :
    (outsAt0 m c t.val t.isLt).1 = k0_pay2 (F := Ideal) (iblk m c 0 t) (outsAt0 m c t.val t.isLt).2.2 (iblk m c 8 t) := by
  have h0 : ¬t.val % 11 = 0 := by omega
  rw [outsAt0_C m c t h0 h1]
  dsimp only
  rw [outC9, soutC1]

/-- What the result array is proved to hold: the reference's value at the arguments. -/
abbrev G (c : Dev nD) : S16384x2048.Idx → Elt Ideal .f32 :=
  Cert.FfnRefIdeal.Read.val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What the last point of a row of blocks writes back is its block of the reference's value. -/
theorem flushed_eq (c : Dev nD) (t : Fin cfg0.N) (hf : (cfg0.win 9).flush t = true) :
    (dats m 0 c).flushed 9 t = ((cfg0.win 9).blk t).view.read (Elt Ideal) (G m c) := by
  have h1 := (flush9 t).mp hf
  rw [Value.flushed9, out_eq m c t h1]
  have ht : t.val < 352 := lt_of_lt_of_eq t.isLt N_0
  obtain ⟨e0, e1⟩ := idx9 t
  funext y
  have hy0 : (y 0).val < 512 := (y 0).isLt
  have hy1 : (y 1).val < 2048 := (y 1).isLt
  have hyy : (y : S512x2048.Idx) = ix2 (⟨(y 0).val, hy0⟩ : Fin 512) (⟨(y 1).val, hy1⟩ : Fin 2048) := by
    funext a; apply Fin.ext
    match a with
    | ⟨0, _⟩ => rfl
    | ⟨1, _⟩ => rfl
  refine (congrArg (k0_pay2 (F := Ideal) (iblk m c 0 t) (outsAt0 m c t.val t.isLt).2.2 (iblk m c 8 t)) hyy).trans ?_
  show _ = G m c (((cfg0.win 9).blk t).view.emb y)
  have hR : t.val / 11 * 512 + (y 0).val < 16384 := by omega
  have hemb : ((cfg0.win 9).blk t).view.emb y = ix2 (⟨t.val / 11 * 512 + (y 0).val, hR⟩ : Fin 16384) (⟨(y 1).val, hy1⟩ : Fin 2048) := by
    funext a; apply Fin.ext
    match a with
    | ⟨0, _⟩ => show win0_9.index t (0 : Fin 2) * 512 + 1 * (y 0).val = t.val / 11 * 512 + (y 0).val; omega
    | ⟨1, _⟩ => show win0_9.index t (1 : Fin 2) * 2048 + 1 * (y 1).val = (y 1).val; omega
  rw [hemb, pay2_apply]
  refine Eq.trans ?_ (ref_apply _ _ _ _ _ _ _ _ _ _).symm
  refine rmsRow_congr (fun k => congrArg₂ (fun a b : EReal => a + b) ?_ ?_) (fun k => iblk8_apply m c t k) _
  · exact iblk0_apply m c t ⟨(y 0).val, hy0⟩ k ⟨_, hR⟩ rfl
  · refine ((state m c t.val t rfl).2 ⟨(y 0).val, hy0⟩ k ⟨_, hR⟩ rfl).trans ?_
    rw [h1]
    exact term_all _ _ _ _ _ _ _ _ _

/-- Every element of the result is in some written block. -/
theorem cover (i : S16384x2048.Idx) : ∃ t : Fin cfg0.N, (cfg0.win 9).flush t = true ∧ i ∈ ((cfg0.win 9).blk t).view.set := by
  have hi0 : (i 0).val < 16384 := (i 0).isLt
  have hi1 : (i 1).val < 2048 := (i 1).isLt
  have ht : (i 0).val / 512 * 11 + 10 < cfg0.N := lt_of_lt_of_eq (by omega) N_0.symm
  obtain ⟨e0, e1⟩ := idx9 ⟨_, ht⟩
  dsimp only at e0 e1
  refine ⟨⟨_, ht⟩, (flush9 _).mpr (by dsimp only; omega), ?_⟩
  show i ∈ ((View.whole main_v6).slice (win0_9.rect ⟨_, ht⟩)).set
  rw [View.set_slice_whole, Rect.mem_set_unit]
  intro a
  match a with
  | ⟨0, _⟩ =>
    show win0_9.index ⟨_, ht⟩ (0 : Fin 2) * 512 ≤ (i 0).val ∧ (i 0).val < win0_9.index ⟨_, ht⟩ (0 : Fin 2) * 512 + 512
    rw [e0]; omega
  | ⟨1, _⟩ =>
    show win0_9.index ⟨_, ht⟩ (1 : Fin 2) * 2048 ≤ (i 1).val ∧ (i 1).val < win0_9.index ⟨_, ht⟩ (1 : Fin 2) * 2048 + 2048
    rw [e1]; omega

/-- The result array after the run is the reference's value. -/
theorem final (c : Dev nD) : (dats m 0 c).arrAt 9 cfg0.N = G m c :=
  (dats m 0 c).arrAt_eq_of_cover 9 _ (fun t hf => flushed_eq m c t hf) cover

/-- The kernel leaves what the reference computes. -/
theorem algebraic : Cert.algebraic_FfnIdeal_FfnRefIdeal (hFfnIdeal := Gen.facts) (hFfnRefIdeal := Cert.FfnRefIdeal.Gen.facts) := by
  intro m ρ m' ρ' _ hagree
  refine ⟨fun c => G m c, ?_, ?_⟩
  · exact (θ_run _ _ _).mono (fun r h c => ⟨(h c).1.trans (final m c), (h c).2⟩) (Value.run_blocks m ρ)
  · refine (θ_run _ _ _).mono (fun r h c => ⟨?_, (h c).2⟩) (Cert.FfnRefIdeal.Value.run (F := Ideal) m' ρ')
    rw [(h c).1]
    have ha := hagree c
    show _ = Cert.FfnRefIdeal.Read.val_main_v59 (F := Ideal) _ _ _ _ _ _ _ _
    rw [← ha.1, ← ha.2.1, ← ha.2.2.1, ← ha.2.2.2.1, ← ha.2.2.2.2.1, ← ha.2.2.2.2.2.1, ← ha.2.2.2.2.2.2.1, ← ha.2.2.2.2.2.2.2]
    rfl

end Cert.FfnIdeal.Hand

end
-- ==== Proof.InAValue.lean ====
/- The normalised input times its block of columns of the in-projection: the kernel's blocks, the carried normalised rows, and the reference, element by element. -/
module

public import proofs.«01_k».proof.Defs
public import proofs.«01_k».proof.Proof.RowMath
public import proofs.«01_k».proof.Proof.Gen.InAIdeal.Value
public import proofs.«01_k».proof.Proof.Gen.InARefIdeal.Run
public import proofs.«01_k».proof.Proof.Gen.InARefIdeal.Read
public import Idealize.ShloMosaic.Lib.Pointwise
public import Idealize.ShloMosaic.Lib.Claim

@[expose] public section

noncomputable section

namespace Cert.InAIdeal.Hand

open Cert.InAIdeal Cert.InAIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The start of a whole block is zero on both axes. -/
theorem hz : (![0, 0] : Fin 2 → Nat) = fun _ => 0 := funext fun a => by fin_cases a <;> rfl

/-- The normalisation step of the block, at an element: the row's normalisation. -/
theorem pay1_apply (x : FVec Ideal S512x2048 .f32) (g : FVec Ideal S1x2048 .f32) (r : Fin 512) (n : Fin 2048) :
    k0_pay1 (F := Ideal) x g (ix2 r n) = rmsRow (fun k => x (ix2 r k)) (fun k => g (ix2 0 k)) n := by
  unfold rmsRow
  pointwise [k0_pay1]

/-- The product step of the block, at an element: row times column. -/
theorem pay2_apply (x : FVec Ideal S512x2048 .bf16) (w : FVec Ideal S2048x1024 .bf16) (r : Fin 512) (n : Fin 1024) :
    k0_pay2 (F := Ideal) x w (ix2 r n) = ∑ k : Fin 2048, x (ix2 r k) * w (ix2 k n) := by
  pointwise [k0_pay2]

open Cert.InARefIdeal.Read in
/-- The reference at an element: the normalised row times the weight's column. -/
theorem ref_apply (x0 x1 x2) (r : Fin 16384) (n : Fin 4096) :
    val_main_v14 (F := Ideal) x0 x1 x2 (ix2 r n)
      = ∑ k : Fin 2048, rmsRow (fun k => x0 (ix2 r k)) (fun k => x1 (ix1 k)) k * x2 (ix2 k ⟨n.val, by omega⟩) := by
  unfold rmsRow
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

/-- The first point of a row of blocks leaves the product of the normalised rows with its weight block. -/
theorem outA (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole) (hc0 : cond0_0 i)
    (x0 : Vec Ideal S512x2048 .f32) (x1 : Vec Ideal S1x2048 .f32) (x2 : Vec Ideal S2048x1024 .bf16) :
    out0_A_3 c i a2 h2 a3 h3 a4 h4 a5 h5 a6 h6 hc0 x0 x1 x2 = k0_pay2 (k0_pay1 x0 x1) x2 := by
  unfold out0_A_3
  rw [View.read_writes_junk_eq_canon]
  unfold kernelRun0_A
  dsimp only
  sl_unfold_words
  rw [View.canon_unit_zero hz, View.readCov_unit_zero _ hz]
  simp only [View.readAt_eq_ld, h2.read_unread, h3.read_unread, h4.read_unread, View.ld_unit_zero (S := S512x2048) hz, View.ld_unit_zero (S := S1x2048) hz, View.ld_unit_zero (S := S2048x1024) hz]

/-- The first point of a row of blocks leaves the normalised rows in the carried buffer. -/
theorem soutA (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole) (hc0 : cond0_0 i)
    (x0 : Vec Ideal S512x2048 .f32) (x1 : Vec Ideal S1x2048 .f32) (x2 : Vec Ideal S2048x1024 .bf16) :
    sout0_A_0 c i a2 h2 a3 h3 a4 h4 a5 h5 a6 h6 hc0 x0 x1 x2 = k0_pay1 x0 x1 := by
  unfold sout0_A_0
  rw [View.read_writes_junk_eq_canon]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- A later point of a row of blocks leaves the product of the carried normalised rows with its weight block. -/
theorem outB (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole) (hc0 : ¬cond0_0 i)
    (x0 : Vec Ideal S512x2048 .f32) (x1 : Vec Ideal S1x2048 .f32) (x2 : Vec Ideal S2048x1024 .bf16) (xs0 : Vec Ideal S512x2048 .bf16) :
    out0_B_3 c i a2 h2 a3 h3 a4 h4 a5 h5 a6 h6 hc0 x0 x1 x2 xs0 = k0_pay2 xs0 x2 := by
  unfold out0_B_3
  rw [View.read_writes_junk_eq_canon]
  unfold kernelRun0_B
  dsimp only
  sl_unfold_words
  rw [View.canon_unit_zero hz]
  simp only [View.readAt_eq_ld, h6.read_unread, h4.read_unread, View.ld_unit_zero (S := S512x2048) hz, View.ld_unit_zero (S := S2048x1024) hz]

/-- The weight the launch prepares is the argument's slice of columns. -/
theorem V_w (c : Dev nD) (k : Fin 2048) (n : Fin 4096) :
    V m c main_v1 (ix2 k n) = m ((c : Thread nD τ).loc main_arg2) (ix2 k ⟨n.val, by omega⟩) := by
  entry_read
  pointwise []
  try rfl

/-- The gain the launch prepares is the argument as one row. -/
theorem V_g (c : Dev nD) (n : Fin 2048) :
    V m c main_v2 (ix2 0 n) = m ((c : Thread nD τ).loc main_arg1) (ix1 n) := by
  entry_read
  pointwise []
  try rfl

/-- The windows' block indices at a grid point. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4
    ∧ (cfg0.win 3).flush t = true :=
  (by decide +kernel : ∀ t : Fin grid0.N, _)

/-- The input rows staged at point `t`. -/
theorem iblk0_apply (c : Dev nD) (t : Fin cfg0.N) (r : Fin 512) (k : Fin 2048) (R : Fin 16384) (hR : R.val = t.val / 4 * 512 + r.val) :
    (iblk m c 0 t : S512x2048.Idx → EReal) (ix2 r k) = m ((c : Thread nD τ).loc main_arg0) (ix2 R k) := by
  obtain ⟨e0, e0', -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The gain staged at point `t`. -/
theorem iblk1_apply (c : Dev nD) (t : Fin cfg0.N) (k : Fin 2048) :
    (iblk m c 1 t : S1x2048.Idx → EReal) (ix2 0 k) = m ((c : Thread nD τ).loc main_arg1) (ix1 k) := by
  obtain ⟨-, -, e0, e0', -⟩ := idx_facts t
  rw [← V_g m c]
  show V m c main_v2 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The weight block staged at point `t`. -/
theorem iblk2_apply (c : Dev nD) (t : Fin cfg0.N) (k : Fin 2048) (n : Fin 1024) (N : Fin 4096) (hN : N.val = t.val % 4 * 1024 + n.val) :
    (iblk m c 2 t : S2048x1024.Idx → EReal) (ix2 k n) = m ((c : Thread nD τ).loc main_arg2) (ix2 k ⟨N.val, by omega⟩) := by
  obtain ⟨-, -, -, -, e0, e0', -⟩ := idx_facts t
  rw [← V_w m c]
  show V m c main_v1 (((cfg0.win 2).blk t).view.emb (ix2 k n)) = _
  refine congrArg _ (funext fun a => Fin.ext ?_)
  match a with
  | ⟨0, _⟩ => show win0_2.index t (0 : Fin 2) * 2048 + 1 * k.val = k.val; omega
  | ⟨1, _⟩ => show win0_2.index t (1 : Fin 2) * 1024 + 1 * n.val = N.val; omega

/-- After every point the carried buffer holds the normalised rows of the point's row of blocks. -/
theorem state (c : Dev nD) (n : ℕ) : ∀ (t : Fin cfg0.N), t.val = n → ∀ (r : Fin 512) (k : Fin 2048) (R : Fin 16384), R.val = t.val / 4 * 512 + r.val →
    ((outsAt0 m c t.val t.isLt).2 : S512x2048.Idx → EReal) (ix2 r k)
      = rmsRow (fun k => m ((c : Thread nD τ).loc main_arg0) (ix2 R k)) (fun k => m ((c : Thread nD τ).loc main_arg1) (ix1 k)) k := by
  induction n using Nat.strong_induction_on with
  | _ n ih =>
    intro t htn r k R hR
    have hN : t.val < 128 := lt_of_lt_of_eq t.isLt N_0
    by_cases h0 : t.val % 4 = 0
    · rw [outsAt0_A m c t h0]
      dsimp only
      rw [soutA, pay1_apply]
      exact rmsRow_congr (fun k => iblk0_apply m c t r k R hR) (fun k => iblk1_apply m c t k) k
    · rw [outsAt0_B m c t h0]
      have hlt : t.val - 1 < cfg0.N := Nat.lt_of_le_of_lt (Nat.sub_le _ _) t.isLt
      have hprev : R.val = (t.val - 1) / 4 * 512 + r.val := by omega
      exact ih (t.val - 1) (by omega) ⟨t.val - 1, hlt⟩ rfl r k R hprev

/-- At every point the output block is the carried normalised rows times the point's weight block. -/
theorem out_eq (c : Dev nD) (t : Fin cfg0.N) : (outsAt0 m c t.val t.isLt).1 = k0_pay2 (F := Ideal) (outsAt0 m c t.val t.isLt).2 (iblk m c 2 t) := by
  by_cases h0 : t.val % 4 = 0
  · rw [outsAt0_A m c t h0]
    dsimp only
    rw [outA, soutA]
  · rw [outsAt0_B m c t h0]
    dsimp only
    rw [outB]
    rfl

/-- What the result array is proved to hold: the reference's value at the arguments. -/
abbrev G (c : Dev nD) : S16384x4096.Idx → Elt Ideal .f32 :=
  Cert.InARefIdeal.Read.val_main_v14 (F := Ideal) (m ((c : Thread nD τ).loc main_arg0)) (m ((c : Thread nD τ).loc main_arg1))
    (m ((c : Thread nD τ).loc main_arg2))

/-- What point `t` writes back is block `t` of the reference's value. -/
theorem flushed_eq (c : Dev nD) (t : Fin cfg0.N) :
    (dats m 0 c).flushed 3 t = ((cfg0.win 3).blk t).view.read (Elt Ideal) (G m c) := by
  rw [Value.flushed3, out_eq]
  have ht : t.val < 128 := lt_of_lt_of_eq t.isLt N_0
  obtain ⟨-, -, -, -, -, -, e3, e3', -⟩ := idx_facts t
  funext y
  have hy0 : (y 0).val < 512 := (y 0).isLt
  have hy1 : (y 1).val < 1024 := (y 1).isLt
  have hyy : (y : S512x1024.Idx) = ix2 (⟨(y 0).val, hy0⟩ : Fin 512) (⟨(y 1).val, hy1⟩ : Fin 1024) := by
    funext a; apply Fin.ext
    match a with
    | ⟨0, _⟩ => rfl
    | ⟨1, _⟩ => rfl
  refine (congrArg (k0_pay2 (F := Ideal) (outsAt0 m c t.val t.isLt).2 (iblk m c 2 t)) hyy).trans ?_
  show _ = G m c (((cfg0.win 3).blk t).view.emb y)
  have hR : t.val / 4 * 512 + (y 0).val < 16384 := by omega
  have hN : t.val % 4 * 1024 + (y 1).val < 4096 := by omega
  have hemb : ((cfg0.win 3).blk t).view.emb y = ix2 (⟨t.val / 4 * 512 + (y 0).val, hR⟩ : Fin 16384)
      (⟨t.val % 4 * 1024 + (y 1).val, hN⟩ : Fin 4096) := by
    funext a; apply Fin.ext
    match a with
    | ⟨0, _⟩ => show win0_3.index t (0 : Fin 2) * 512 + 1 * (y 0).val = t.val / 4 * 512 + (y 0).val; omega
    | ⟨1, _⟩ => show win0_3.index t (1 : Fin 2) * 1024 + 1 * (y 1).val = t.val % 4 * 1024 + (y 1).val; omega
  rw [hemb, pay2_apply]
  refine Eq.trans ?_ (ref_apply _ _ _ _ _).symm
  refine Finset.sum_congr rfl fun k _ => congrArg₂ (· * ·) ?_ ?_
  · exact state m c t.val t rfl ⟨(y 0).val, hy0⟩ k ⟨_, hR⟩ rfl
  · exact iblk2_apply m c t k ⟨(y 1).val, hy1⟩ ⟨_, hN⟩ rfl

/-- Every element of the result is in some point's block. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  have ht : (i 0).val / 512 * 4 + (i 1).val / 1024 < cfg0.N := lt_of_lt_of_eq (by omega) N_0.symm
  obtain ⟨-, -, -, -, -, -, e3, e3', hf⟩ := idx_facts ⟨_, ht⟩
  dsimp only at e3 e3'
  refine ⟨⟨_, ht⟩, hf, ?_⟩
  show i ∈ ((View.whole main_v3).slice (win0_3.rect ⟨_, ht⟩)).set
  rw [View.set_slice_whole, Rect.mem_set_unit]
  intro a
  match a with
  | ⟨0, _⟩ =>
    show win0_3.index ⟨_, ht⟩ (0 : Fin 2) * 512 ≤ (i 0).val ∧ (i 0).val < win0_3.index ⟨_, ht⟩ (0 : Fin 2) * 512 + 512
    rw [e3]; omega
  | ⟨1, _⟩ =>
    show win0_3.index ⟨_, ht⟩ (1 : Fin 2) * 1024 ≤ (i 1).val ∧ (i 1).val < win0_3.index ⟨_, ht⟩ (1 : Fin 2) * 1024 + 1024
    rw [e3']; omega

/-- The result array after the run is the reference's value. -/
theorem final (c : Dev nD) : (dats m 0 c).arrAt 3 cfg0.N = G m c :=
  (dats m 0 c).arrAt_eq_of_cover 3 _ (fun t _ => flushed_eq m c t) cover

/-- The kernel leaves what the reference computes. -/
theorem algebraic : Cert.algebraic_InAIdeal_InARefIdeal (hInAIdeal := Gen.facts) (hInARefIdeal := Cert.InARefIdeal.Gen.facts) := by
  intro m ρ m' ρ' _ hagree
  refine ⟨fun c => G m c, ?_, ?_⟩
  · exact (θ_run _ _ _).mono (fun r h c => ⟨(h c).1.trans (final m c), (h c).2⟩) (Value.run_blocks m ρ)
  · refine (θ_run _ _ _).mono (fun r h c => ⟨?_, (h c).2⟩) (Cert.InARefIdeal.Value.run (F := Ideal) m' ρ')
    rw [(h c).1]
    have ha := hagree c
    show _ = Cert.InARefIdeal.Read.val_main_v14 (F := Ideal) _ _ _
    rw [← ha.1, ← ha.2.1, ← ha.2.2]
    rfl

end Cert.InAIdeal.Hand

end
-- ==== Proof.InBValue.lean ====
/- The normalised input times its block of columns of the in-projection: the kernel's blocks, the carried normalised rows, and the reference, element by element. -/
module

public import proofs.«01_k».proof.Defs
public import proofs.«01_k».proof.Proof.RowMath
public import proofs.«01_k».proof.Proof.Gen.InBIdeal.Value
public import proofs.«01_k».proof.Proof.Gen.InBRefIdeal.Run
public import proofs.«01_k».proof.Proof.Gen.InBRefIdeal.Read
public import Idealize.ShloMosaic.Lib.Pointwise
public import Idealize.ShloMosaic.Lib.Claim

@[expose] public section

noncomputable section

namespace Cert.InBIdeal.Hand

open Cert.InBIdeal Cert.InBIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The start of a whole block is zero on both axes. -/
theorem hz : (![0, 0] : Fin 2 → Nat) = fun _ => 0 := funext fun a => by fin_cases a <;> rfl

/-- The normalisation step of the block, at an element: the row's normalisation. -/
theorem pay1_apply (x : FVec Ideal S512x2048 .f32) (g : FVec Ideal S1x2048 .f32) (r : Fin 512) (n : Fin 2048) :
    k0_pay1 (F := Ideal) x g (ix2 r n) = rmsRow (fun k => x (ix2 r k)) (fun k => g (ix2 0 k)) n := by
  unfold rmsRow
  pointwise [k0_pay1]

/-- The product step of the block, at an element: row times column. -/
theorem pay2_apply (x : FVec Ideal S512x2048 .bf16) (w : FVec Ideal S2048x1024 .bf16) (r : Fin 512) (n : Fin 1024) :
    k0_pay2 (F := Ideal) x w (ix2 r n) = ∑ k : Fin 2048, x (ix2 r k) * w (ix2 k n) := by
  pointwise [k0_pay2]

open Cert.InBRefIdeal.Read in
/-- The reference at an element: the normalised row times the weight's column. -/
theorem ref_apply (x0 x1 x2) (r : Fin 16384) (n : Fin 3072) :
    val_main_v14 (F := Ideal) x0 x1 x2 (ix2 r n)
      = ∑ k : Fin 2048, rmsRow (fun k => x0 (ix2 r k)) (fun k => x1 (ix1 k)) k * x2 (ix2 k ⟨4112 + n.val, by omega⟩) := by
  unfold rmsRow
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

/-- The first point of a row of blocks leaves the product of the normalised rows with its weight block. -/
theorem outA (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole) (hc0 : cond0_0 i)
    (x0 : Vec Ideal S512x2048 .f32) (x1 : Vec Ideal S1x2048 .f32) (x2 : Vec Ideal S2048x1024 .bf16) :
    out0_A_3 c i a2 h2 a3 h3 a4 h4 a5 h5 a6 h6 hc0 x0 x1 x2 = k0_pay2 (k0_pay1 x0 x1) x2 := by
  unfold out0_A_3
  rw [View.read_writes_junk_eq_canon]
  unfold kernelRun0_A
  dsimp only
  sl_unfold_words
  rw [View.canon_unit_zero hz, View.readCov_unit_zero _ hz]
  simp only [View.readAt_eq_ld, h2.read_unread, h3.read_unread, h4.read_unread, View.ld_unit_zero (S := S512x2048) hz, View.ld_unit_zero (S := S1x2048) hz, View.ld_unit_zero (S := S2048x1024) hz]

/-- The first point of a row of blocks leaves the normalised rows in the carried buffer. -/
theorem soutA (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole) (hc0 : cond0_0 i)
    (x0 : Vec Ideal S512x2048 .f32) (x1 : Vec Ideal S1x2048 .f32) (x2 : Vec Ideal S2048x1024 .bf16) :
    sout0_A_0 c i a2 h2 a3 h3 a4 h4 a5 h5 a6 h6 hc0 x0 x1 x2 = k0_pay1 x0 x1 := by
  unfold sout0_A_0
  rw [View.read_writes_junk_eq_canon]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- A later point of a row of blocks leaves the product of the carried normalised rows with its weight block. -/
theorem outB (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole) (hc0 : ¬cond0_0 i)
    (x0 : Vec Ideal S512x2048 .f32) (x1 : Vec Ideal S1x2048 .f32) (x2 : Vec Ideal S2048x1024 .bf16) (xs0 : Vec Ideal S512x2048 .bf16) :
    out0_B_3 c i a2 h2 a3 h3 a4 h4 a5 h5 a6 h6 hc0 x0 x1 x2 xs0 = k0_pay2 xs0 x2 := by
  unfold out0_B_3
  rw [View.read_writes_junk_eq_canon]
  unfold kernelRun0_B
  dsimp only
  sl_unfold_words
  rw [View.canon_unit_zero hz]
  simp only [View.readAt_eq_ld, h6.read_unread, h4.read_unread, View.ld_unit_zero (S := S512x2048) hz, View.ld_unit_zero (S := S2048x1024) hz]

/-- The weight the launch prepares is the argument's slice of columns. -/
theorem V_w (c : Dev nD) (k : Fin 2048) (n : Fin 3072) :
    V m c main_v1 (ix2 k n) = m ((c : Thread nD τ).loc main_arg2) (ix2 k ⟨4112 + n.val, by omega⟩) := by
  entry_read
  pointwise []
  try rfl

/-- The gain the launch prepares is the argument as one row. -/
theorem V_g (c : Dev nD) (n : Fin 2048) :
    V m c main_v2 (ix2 0 n) = m ((c : Thread nD τ).loc main_arg1) (ix1 n) := by
  entry_read
  pointwise []
  try rfl

/-- The windows' block indices at a grid point. -/
theorem idx_facts : ∀ t : Fin cfg0.N,
    win0_0.index t (0 : Fin 2) = t.val / 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 3
    ∧ win0_3.index t (0 : Fin 2) = t.val / 3 ∧ win0_3.index t (1 : Fin 2) = t.val % 3
    ∧ (cfg0.win 3).flush t = true :=
  (by decide +kernel : ∀ t : Fin grid0.N, _)

/-- The input rows staged at point `t`. -/
theorem iblk0_apply (c : Dev nD) (t : Fin cfg0.N) (r : Fin 512) (k : Fin 2048) (R : Fin 16384) (hR : R.val = t.val / 3 * 512 + r.val) :
    (iblk m c 0 t : S512x2048.Idx → EReal) (ix2 r k) = m ((c : Thread nD τ).loc main_arg0) (ix2 R k) := by
  obtain ⟨e0, e0', -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The gain staged at point `t`. -/
theorem iblk1_apply (c : Dev nD) (t : Fin cfg0.N) (k : Fin 2048) :
    (iblk m c 1 t : S1x2048.Idx → EReal) (ix2 0 k) = m ((c : Thread nD τ).loc main_arg1) (ix1 k) := by
  obtain ⟨-, -, e0, e0', -⟩ := idx_facts t
  rw [← V_g m c]
  show V m c main_v2 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The weight block staged at point `t`. -/
theorem iblk2_apply (c : Dev nD) (t : Fin cfg0.N) (k : Fin 2048) (n : Fin 1024) (N : Fin 3072) (hN : N.val = t.val % 3 * 1024 + n.val) :
    (iblk m c 2 t : S2048x1024.Idx → EReal) (ix2 k n) = m ((c : Thread nD τ).loc main_arg2) (ix2 k ⟨4112 + N.val, by omega⟩) := by
  obtain ⟨-, -, -, -, e0, e0', -⟩ := idx_facts t
  rw [← V_w m c]
  show V m c main_v1 (((cfg0.win 2).blk t).view.emb (ix2 k n)) = _
  refine congrArg _ (funext fun a => Fin.ext ?_)
  match a with
  | ⟨0, _⟩ => show win0_2.index t (0 : Fin 2) * 2048 + 1 * k.val = k.val; omega
  | ⟨1, _⟩ => show win0_2.index t (1 : Fin 2) * 1024 + 1 * n.val = N.val; omega

/-- After every point the carried buffer holds the normalised rows of the point's row of blocks. -/
theorem state (c : Dev nD) (n : ℕ) : ∀ (t : Fin cfg0.N), t.val = n → ∀ (r : Fin 512) (k : Fin 2048) (R : Fin 16384), R.val = t.val / 3 * 512 + r.val →
    ((outsAt0 m c t.val t.isLt).2 : S512x2048.Idx → EReal) (ix2 r k)
      = rmsRow (fun k => m ((c : Thread nD τ).loc main_arg0) (ix2 R k)) (fun k => m ((c : Thread nD τ).loc main_arg1) (ix1 k)) k := by
  induction n using Nat.strong_induction_on with
  | _ n ih =>
    intro t htn r k R hR
    have hN : t.val < 96 := lt_of_lt_of_eq t.isLt N_0
    by_cases h0 : t.val % 3 = 0
    · rw [outsAt0_A m c t h0]
      dsimp only
      rw [soutA, pay1_apply]
      exact rmsRow_congr (fun k => iblk0_apply m c t r k R hR) (fun k => iblk1_apply m c t k) k
    · rw [outsAt0_B m c t h0]
      have hlt : t.val - 1 < cfg0.N := Nat.lt_of_le_of_lt (Nat.sub_le _ _) t.isLt
      have hprev : R.val = (t.val - 1) / 3 * 512 + r.val := by omega
      exact ih (t.val - 1) (by omega) ⟨t.val - 1, hlt⟩ rfl r k R hprev

/-- At every point the output block is the carried normalised rows times the point's weight block. -/
theorem out_eq (c : Dev nD) (t : Fin cfg0.N) : (outsAt0 m c t.val t.isLt).1 = k0_pay2 (F := Ideal) (outsAt0 m c t.val t.isLt).2 (iblk m c 2 t) := by
  by_cases h0 : t.val % 3 = 0
  · rw [outsAt0_A m c t h0]
    dsimp only
    rw [outA, soutA]
  · rw [outsAt0_B m c t h0]
    dsimp only
    rw [outB]
    rfl

/-- What the result array is proved to hold: the reference's value at the arguments. -/
abbrev G (c : Dev nD) : S16384x3072.Idx → Elt Ideal .f32 :=
  Cert.InBRefIdeal.Read.val_main_v14 (F := Ideal) (m ((c : Thread nD τ).loc main_arg0)) (m ((c : Thread nD τ).loc main_arg1))
    (m ((c : Thread nD τ).loc main_arg2))

/-- What point `t` writes back is block `t` of the reference's value. -/
theorem flushed_eq (c : Dev nD) (t : Fin cfg0.N) :
    (dats m 0 c).flushed 3 t = ((cfg0.win 3).blk t).view.read (Elt Ideal) (G m c) := by
  rw [Value.flushed3, out_eq]
  have ht : t.val < 96 := lt_of_lt_of_eq t.isLt N_0
  obtain ⟨-, -, -, -, -, -, e3, e3', -⟩ := idx_facts t
  funext y
  have hy0 : (y 0).val < 512 := (y 0).isLt
  have hy1 : (y 1).val < 1024 := (y 1).isLt
  have hyy : (y : S512x1024.Idx) = ix2 (⟨(y 0).val, hy0⟩ : Fin 512) (⟨(y 1).val, hy1⟩ : Fin 1024) := by
    funext a; apply Fin.ext
    match a with
    | ⟨0, _⟩ => rfl
    | ⟨1, _⟩ => rfl
  refine (congrArg (k0_pay2 (F := Ideal) (outsAt0 m c t.val t.isLt).2 (iblk m c 2 t)) hyy).trans ?_
  show _ = G m c (((cfg0.win 3).blk t).view.emb y)
  have hR : t.val / 3 * 512 + (y 0).val < 16384 := by omega
  have hN : t.val % 3 * 1024 + (y 1).val < 3072 := by omega
  have hemb : ((cfg0.win 3).blk t).view.emb y = ix2 (⟨t.val / 3 * 512 + (y 0).val, hR⟩ : Fin 16384)
      (⟨t.val % 3 * 1024 + (y 1).val, hN⟩ : Fin 3072) := by
    funext a; apply Fin.ext
    match a with
    | ⟨0, _⟩ => show win0_3.index t (0 : Fin 2) * 512 + 1 * (y 0).val = t.val / 3 * 512 + (y 0).val; omega
    | ⟨1, _⟩ => show win0_3.index t (1 : Fin 2) * 1024 + 1 * (y 1).val = t.val % 3 * 1024 + (y 1).val; omega
  rw [hemb, pay2_apply]
  refine Eq.trans ?_ (ref_apply _ _ _ _ _).symm
  refine Finset.sum_congr rfl fun k _ => congrArg₂ (· * ·) ?_ ?_
  · exact state m c t.val t rfl ⟨(y 0).val, hy0⟩ k ⟨_, hR⟩ rfl
  · exact iblk2_apply m c t k ⟨(y 1).val, hy1⟩ ⟨_, hN⟩ rfl

/-- Every element of the result is in some point's block. -/
theorem cover (i : S16384x3072.Idx) : ∃ t : Fin cfg0.N, (cfg0.win 3).flush t = true ∧ i ∈ ((cfg0.win 3).blk t).view.set := by
  have hi0 : (i 0).val < 16384 := (i 0).isLt
  have hi1 : (i 1).val < 3072 := (i 1).isLt
  have ht : (i 0).val / 512 * 3 + (i 1).val / 1024 < cfg0.N := lt_of_lt_of_eq (by omega) N_0.symm
  obtain ⟨-, -, -, -, -, -, e3, e3', hf⟩ := idx_facts ⟨_, ht⟩
  dsimp only at e3 e3'
  refine ⟨⟨_, ht⟩, hf, ?_⟩
  show i ∈ ((View.whole main_v3).slice (win0_3.rect ⟨_, ht⟩)).set
  rw [View.set_slice_whole, Rect.mem_set_unit]
  intro a
  match a with
  | ⟨0, _⟩ =>
    show win0_3.index ⟨_, ht⟩ (0 : Fin 2) * 512 ≤ (i 0).val ∧ (i 0).val < win0_3.index ⟨_, ht⟩ (0 : Fin 2) * 512 + 512
    rw [e3]; omega
  | ⟨1, _⟩ =>
    show win0_3.index ⟨_, ht⟩ (1 : Fin 2) * 1024 ≤ (i 1).val ∧ (i 1).val < win0_3.index ⟨_, ht⟩ (1 : Fin 2) * 1024 + 1024
    rw [e3']; omega

/-- The result array after the run is the reference's value. -/
theorem final (c : Dev nD) : (dats m 0 c).arrAt 3 cfg0.N = G m c :=
  (dats m 0 c).arrAt_eq_of_cover 3 _ (fun t _ => flushed_eq m c t) cover

/-- The kernel leaves what the reference computes. -/
theorem algebraic : Cert.algebraic_InBIdeal_InBRefIdeal (hInBIdeal := Gen.facts) (hInBRefIdeal := Cert.InBRefIdeal.Gen.facts) := by
  intro m ρ m' ρ' _ hagree
  refine ⟨fun c => G m c, ?_, ?_⟩
  · exact (θ_run _ _ _).mono (fun r h c => ⟨(h c).1.trans (final m c), (h c).2⟩) (Value.run_blocks m ρ)
  · refine (θ_run _ _ _).mono (fun r h c => ⟨?_, (h c).2⟩) (Cert.InBRefIdeal.Value.run (F := Ideal) m' ρ')
    rw [(h c).1]
    have ha := hagree c
    show _ = Cert.InBRefIdeal.Read.val_main_v14 (F := Ideal) _ _ _
    rw [← ha.1, ← ha.2.1, ← ha.2.2]
    rfl

end Cert.InBIdeal.Hand

end
-- ==== Proof.InBaValue.lean ====
/- The normalised input times the gate columns of the in-projection, padded with zero columns: the kernel's blocks and the reference, element by element. -/
module

public import proofs.«01_k».proof.Defs
public import proofs.«01_k».proof.Proof.RowMath
public import proofs.«01_k».proof.Proof.Gen.InBaIdeal.Value
public import proofs.«01_k».proof.Proof.Gen.InBaRefIdeal.Run
public import proofs.«01_k».proof.Proof.Gen.InBaRefIdeal.Read
public import Idealize.ShloMosaic.Lib.Pointwise
public import Idealize.ShloMosaic.Lib.Claim

@[expose] public section

noncomputable section

namespace Cert.InBaIdeal.Hand

open Cert.InBaIdeal Cert.InBaIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The start of a whole block is zero on both axes. -/
theorem hz : (![0, 0] : Fin 2 → Nat) = fun _ => 0 := funext fun a => by fin_cases a <;> rfl

/-- The normalisation step of the block, at an element: the row's normalisation. -/
theorem pay1_apply (x : FVec Ideal S512x2048 .f32) (g : FVec Ideal S1x2048 .f32) (r : Fin 512) (n : Fin 2048) :
    k0_pay1 (F := Ideal) x g (ix2 r n) = rmsRow (fun k => x (ix2 r k)) (fun k => g (ix2 0 k)) n := by
  unfold rmsRow
  pointwise [k0_pay1]

/-- The product step of the block, at an element: row times column. -/
theorem pay2_apply (x : FVec Ideal S512x2048 .bf16) (w : FVec Ideal S2048x128 .bf16) (r : Fin 512) (n : Fin 128) :
    k0_pay2 (F := Ideal) x w (ix2 r n) = ∑ k : Fin 2048, x (ix2 r k) * w (ix2 k n) := by
  pointwise [k0_pay2]

open Cert.InBaRefIdeal.Read in
/-- The reference at an element: the normalised row times the weight's column. -/
theorem ref_apply (x0 x1 x2) (r : Fin 16384) (n : Fin 128) :
    val_main_v15 (F := Ideal) x0 x1 x2 (ix2 r n)
      = ∑ k : Fin 2048, rmsRow (fun k => x0 (ix2 r k)) (fun k => x1 (ix1 k)) k * (if h : n.val < 16 then x2 (ix2 k ⟨4096 + n.val, by omega⟩) else (0 : EReal)) := by
  unfold rmsRow
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_c, val_main_call0_v0, val_main_v15]
  by_cases h : n.val < 16
  · simp only [dif_pos h]
  · simp only [dif_neg h, mul_zero, Finset.sum_const_zero]
    exact sitofp_zero

/-- The first point of a row of blocks leaves the product of the normalised rows with its weight block. -/
theorem outA (c : Dev nD) (i : grid0.Coords) (a2 : Memref sig .tc .vmem S512x2048 .f32) (h2 : a2.IsWhole) (a3 : Memref sig .tc .vmem S1x2048 .f32) (h3 : a3.IsWhole) (a4 : Memref sig .tc .vmem S2048x128 .bf16) (h4 : a4.IsWhole)
    (a5 : Memref sig .tc .vmem S512x128 .f32) (h5 : a5.IsWhole) (a6 : Memref sig .tc .vmem S512x2048 .bf16) (h6 : a6.IsWhole) (hc0 : cond0_0 i)
    (x0 : Vec Ideal S512x2048 .f32) (x1 : Vec Ideal S1x2048 .f32) (x2 : Vec Ideal S2048x128 .bf16) :
    out0_A_3 c i a2 h2 a3 h3 a4 h4 a5 h5 a6 h6 hc0 x0 x1 x2 = k0_pay2 (k0_pay1 x0 x1) x2 := by
  unfold out0_A_3
  rw [View.read_writes_junk_eq_canon]
  unfold kernelRun0_A
  dsimp only
  sl_unfold_words
  rw [View.canon_unit_zero hz, View.readCov_unit_zero _ hz]
  simp only [View.readAt_eq_ld, h2.read_unread, h3.read_unread, h4.read_unread, View.ld_unit_zero (S := S512x2048) hz, View.ld_unit_zero (S := S1x2048) hz, View.ld_unit_zero (S := S2048x128) hz]

/-- The weight the launch prepares is the argument's slice of columns, then zero columns. -/
theorem V_w (c : Dev nD) (k : Fin 2048) (n : Fin 128) :
    V m c main_v2 (ix2 k n) = (if h : n.val < 16 then m ((c : Thread nD τ).loc main_arg2) (ix2 k ⟨4096 + n.val, by omega⟩) else (0 : EReal)) := by
  simp only [V, hostOps0, hostOps0_1, hostOps0_2, List.flatten_cons, List.flatten_nil, List.append_nil, List.cons_append, List.nil_append]
  entry_read
  show (pad (α := Ideal .f32) S2048x128 ![0, 0] ![0, 112] ![0, 0] (extractStridedSlice S2048x16 ![0, 4096] (m (c, Proc.tc.devRef main_arg2) : FVec Ideal S2048x7184 .f32) slices_S2048x7184_S2048x16_0_4096) (sitofp (F := Ideal) FTy.f32 (constantI S_ 32 0#32)) pads_S2048x16_S2048x128_000_01120 h_S_) (ix2 k n) = _
  pointwise []
  by_cases h : n.val < 16
  · simp only [dif_pos h]
    try rfl
  · simp only [dif_neg h]
    exact sitofp_zero

/-- The gain the launch prepares is the argument as one row. -/
theorem V_g (c : Dev nD) (n : Fin 2048) :
    V m c main_v3 (ix2 0 n) = m ((c : Thread nD τ).loc main_arg1) (ix1 n) := by
  simp only [V, hostOps0, hostOps0_1, hostOps0_2, List.flatten_cons, List.flatten_nil, List.append_nil, List.cons_append, List.nil_append]
  entry_read
  pointwise []
  try rfl

/-- The windows' block indices at a grid point. -/
theorem idx_facts : ∀ t : Fin cfg0.N,
    win0_0.index t (0 : Fin 2) = t.val / 1 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 1
    ∧ win0_3.index t (0 : Fin 2) = t.val / 1 ∧ win0_3.index t (1 : Fin 2) = t.val % 1
    ∧ (cfg0.win 3).flush t = true :=
  (by decide +kernel : ∀ t : Fin grid0.N, _)

/-- The input rows staged at point `t`. -/
theorem iblk0_apply (c : Dev nD) (t : Fin cfg0.N) (r : Fin 512) (k : Fin 2048) (R : Fin 16384) (hR : R.val = t.val / 1 * 512 + r.val) :
    (iblk m c 0 t : S512x2048.Idx → EReal) (ix2 r k) = m ((c : Thread nD τ).loc main_arg0) (ix2 R k) := by
  obtain ⟨e0, e0', -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The gain staged at point `t`. -/
theorem iblk1_apply (c : Dev nD) (t : Fin cfg0.N) (k : Fin 2048) :
    (iblk m c 1 t : S1x2048.Idx → EReal) (ix2 0 k) = m ((c : Thread nD τ).loc main_arg1) (ix1 k) := by
  obtain ⟨-, -, e0, e0', -⟩ := idx_facts t
  rw [← V_g m c]
  show V m c main_v3 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The weight block staged at point `t`. -/
theorem iblk2_apply (c : Dev nD) (t : Fin cfg0.N) (k : Fin 2048) (n : Fin 128) (N : Fin 128) (hN : N.val = t.val % 1 * 128 + n.val) :
    (iblk m c 2 t : S2048x128.Idx → EReal) (ix2 k n) = (if h : N.val < 16 then m ((c : Thread nD τ).loc main_arg2) (ix2 k ⟨4096 + N.val, by omega⟩) else (0 : EReal)) := by
  obtain ⟨-, -, -, -, e0, e0', -⟩ := idx_facts t
  rw [← V_w m c]
  show V m c main_v2 (((cfg0.win 2).blk t).view.emb (ix2 k n)) = _
  refine congrArg _ (funext fun a => Fin.ext ?_)
  match a with
  | ⟨0, _⟩ => show win0_2.index t (0 : Fin 2) * 2048 + 1 * k.val = k.val; omega
  | ⟨1, _⟩ => show win0_2.index t (1 : Fin 2) * 128 + 1 * n.val = N.val; omega

/-- At every point the output block is the normalised rows times the point's weight block. -/
theorem out_eq (c : Dev nD) (t : Fin cfg0.N) : outsAt0 m c t = k0_pay2 (F := Ideal) (k0_pay1 (F := Ideal) (iblk m c 0 t) (iblk m c 1 t)) (iblk m c 2 t) := by
  unfold outsAt0
  rw [outA]

/-- What the result array is proved to hold: the reference's value at the arguments. -/
abbrev G (c : Dev nD) : S16384x128.Idx → Elt Ideal .f32 :=
  Cert.InBaRefIdeal.Read.val_main_v15 (F := Ideal) (m ((c : Thread nD τ).loc main_arg0)) (m ((c : Thread nD τ).loc main_arg1))
    (m ((c : Thread nD τ).loc main_arg2))

/-- What point `t` writes back is block `t` of the reference's value. -/
theorem flushed_eq (c : Dev nD) (t : Fin cfg0.N) :
    (dats m 0 c).flushed 3 t = ((cfg0.win 3).blk t).view.read (Elt Ideal) (G m c) := by
  rw [Value.flushed3, out_eq]
  have ht : t.val < 32 := lt_of_lt_of_eq t.isLt N_0
  obtain ⟨-, -, -, -, -, -, e3, e3', -⟩ := idx_facts t
  funext y
  have hy0 : (y 0).val < 512 := (y 0).isLt
  have hy1 : (y 1).val < 128 := (y 1).isLt
  have hyy : (y : S512x128.Idx) = ix2 (⟨(y 0).val, hy0⟩ : Fin 512) (⟨(y 1).val, hy1⟩ : Fin 128) := by
    funext a; apply Fin.ext
    match a with
    | ⟨0, _⟩ => rfl
    | ⟨1, _⟩ => rfl
  refine (congrArg (k0_pay2 (F := Ideal) (k0_pay1 (F := Ideal) (iblk m c 0 t) (iblk m c 1 t)) (iblk m c 2 t)) hyy).trans ?_
  show _ = G m c (((cfg0.win 3).blk t).view.emb y)
  have hR : t.val / 1 * 512 + (y 0).val < 16384 := by omega
  have hN : t.val % 1 * 128 + (y 1).val < 128 := by omega
  have hemb : ((cfg0.win 3).blk t).view.emb y = ix2 (⟨t.val / 1 * 512 + (y 0).val, hR⟩ : Fin 16384)
      (⟨t.val % 1 * 128 + (y 1).val, hN⟩ : Fin 128) := by
    funext a; apply Fin.ext
    match a with
    | ⟨0, _⟩ => show win0_3.index t (0 : Fin 2) * 512 + 1 * (y 0).val = t.val / 1 * 512 + (y 0).val; omega
    | ⟨1, _⟩ => show win0_3.index t (1 : Fin 2) * 128 + 1 * (y 1).val = t.val % 1 * 128 + (y 1).val; omega
  rw [hemb, pay2_apply]
  refine Eq.trans ?_ (ref_apply _ _ _ _ _).symm
  refine Finset.sum_congr rfl fun k _ => congrArg₂ (· * ·) ?_ ?_
  · rw [pay1_apply]; exact rmsRow_congr (fun k => iblk0_apply m c t ⟨(y 0).val, hy0⟩ k ⟨_, hR⟩ rfl) (fun k => iblk1_apply m c t k) k
  · exact iblk2_apply m c t k ⟨(y 1).val, hy1⟩ ⟨_, hN⟩ rfl

/-- Every element of the result is in some point's block. -/
theorem cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have ht : (i 0).val / 512 * 1 + (i 1).val / 128 < cfg0.N := lt_of_lt_of_eq (by omega) N_0.symm
  obtain ⟨-, -, -, -, -, -, e3, e3', hf⟩ := idx_facts ⟨_, ht⟩
  dsimp only at e3 e3'
  refine ⟨⟨_, ht⟩, hf, ?_⟩
  show i ∈ ((View.whole main_v4).slice (win0_3.rect ⟨_, ht⟩)).set
  rw [View.set_slice_whole, Rect.mem_set_unit]
  intro a
  match a with
  | ⟨0, _⟩ =>
    show win0_3.index ⟨_, ht⟩ (0 : Fin 2) * 512 ≤ (i 0).val ∧ (i 0).val < win0_3.index ⟨_, ht⟩ (0 : Fin 2) * 512 + 512
    rw [e3]; omega
  | ⟨1, _⟩ =>
    show win0_3.index ⟨_, ht⟩ (1 : Fin 2) * 128 ≤ (i 1).val ∧ (i 1).val < win0_3.index ⟨_, ht⟩ (1 : Fin 2) * 128 + 128
    rw [e3']; omega

/-- The result array after the run is the reference's value. -/
theorem final (c : Dev nD) : (dats m 0 c).arrAt 3 cfg0.N = G m c :=
  (dats m 0 c).arrAt_eq_of_cover 3 _ (fun t _ => flushed_eq m c t) cover

/-- The kernel leaves what the reference computes. -/
theorem algebraic : Cert.algebraic_InBaIdeal_InBaRefIdeal (hInBaIdeal := Gen.facts) (hInBaRefIdeal := Cert.InBaRefIdeal.Gen.facts) := by
  intro m ρ m' ρ' _ hagree
  refine ⟨fun c => G m c, ?_, ?_⟩
  · exact (θ_run _ _ _).mono (fun r h c => ⟨(h c).1.trans (final m c), (h c).2⟩) (Value.run_blocks m ρ)
  · refine (θ_run _ _ _).mono (fun r h c => ⟨?_, (h c).2⟩) (Cert.InBaRefIdeal.Value.run (F := Ideal) m' ρ')
    rw [(h c).1]
    have ha := hagree c
    show _ = Cert.InBaRefIdeal.Read.val_main_v15 (F := Ideal) _ _ _
    rw [← ha.1, ← ha.2.1, ← ha.2.2]
    rfl

end Cert.InBaIdeal.Hand

end
-- ==== Proof.KvValue.lean ====
/- The normalised memory times its projection to keys and values: the kernel's blocks and the reference, element by element. -/
module

public import proofs.«01_k».proof.Defs
public import proofs.«01_k».proof.Proof.RowMath
public import proofs.«01_k».proof.Proof.Gen.KvIdeal.Value
public import proofs.«01_k».proof.Proof.Gen.KvRefIdeal.Run
public import proofs.«01_k».proof.Proof.Gen.KvRefIdeal.Read
public import Idealize.ShloMosaic.Lib.Pointwise
public import Idealize.ShloMosaic.Lib.Claim

@[expose] public section

noncomputable section

namespace Cert.KvIdeal.Hand

open Cert.KvIdeal Cert.KvIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The start of a whole block is zero on both axes. -/
theorem hz : (![0, 0] : Fin 2 → Nat) = fun _ => 0 := funext fun a => by fin_cases a <;> rfl

/-- The normalisation step of the block, at an element: the row's normalisation. -/
theorem pay1_apply (x : FVec Ideal S512x2048 .f32) (g : FVec Ideal S1x2048 .f32) (r : Fin 512) (n : Fin 2048) :
    k0_pay1 (F := Ideal) x g (ix2 r n) = rmsRow (fun k => x (ix2 r k)) (fun k => g (ix2 0 k)) n := by
  unfold rmsRow
  pointwise [k0_pay1]

/-- The product step of the block, at an element: row times column. -/
theorem pay2_apply (x : FVec Ideal S512x2048 .bf16) (w : FVec Ideal S2048x1024 .bf16) (r : Fin 512) (n : Fin 1024) :
    k0_pay2 (F := Ideal) x w (ix2 r n) = ∑ k : Fin 2048, x (ix2 r k) * w (ix2 k n) := by
  pointwise [k0_pay2]

open Cert.KvRefIdeal.Read in
/-- The reference at an element: the normalised row times the weight's column. -/
theorem ref_apply (x0 x1 x2) (r : Fin 2048) (n : Fin 1024) :
    val_main_v13 (F := Ideal) x0 x1 x2 (ix2 r n)
      = ∑ k : Fin 2048, rmsRow (fun k => x0 (ix2 r k)) (fun k => x1 (ix1 k)) k * x2 (ix2 k n) := by
  unfold rmsRow
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]

/-- The first point of a row of blocks leaves the product of the normalised rows with its weight block. -/
theorem outA (c : Dev nD) (i : grid0.Coords) (a2 : Memref sig .tc .vmem S512x2048 .f32) (h2 : a2.IsWhole) (a3 : Memref sig .tc .vmem S1x2048 .f32) (h3 : a3.IsWhole) (a4 : Memref sig .tc .vmem S2048x1024 .bf16) (h4 : a4.IsWhole)
    (a5 : Memref sig .tc .vmem S512x1024 .f32) (h5 : a5.IsWhole) (a6 : Memref sig .tc .vmem S512x2048 .bf16) (h6 : a6.IsWhole) (hc0 : cond0_0 i)
    (x0 : Vec Ideal S512x2048 .f32) (x1 : Vec Ideal S1x2048 .f32) (x2 : Vec Ideal S2048x1024 .bf16) :
    out0_A_3 c i a2 h2 a3 h3 a4 h4 a5 h5 a6 h6 hc0 x0 x1 x2 = k0_pay2 (k0_pay1 x0 x1) x2 := by
  unfold out0_A_3
  rw [View.read_writes_junk_eq_canon]
  unfold kernelRun0_A
  dsimp only
  sl_unfold_words
  rw [View.canon_unit_zero hz, View.readCov_unit_zero _ hz]
  simp only [View.readAt_eq_ld, h2.read_unread, h3.read_unread, h4.read_unread, View.ld_unit_zero (S := S512x2048) hz, View.ld_unit_zero (S := S1x2048) hz, View.ld_unit_zero (S := S2048x1024) hz]

/-- The weight the launch prepares is the argument's slice of columns. -/
theorem V_w (c : Dev nD) (k : Fin 2048) (n : Fin 1024) :
    V m c main_v0 (ix2 k n) = m ((c : Thread nD τ).loc main_arg2) (ix2 k n) := by
  entry_read
  pointwise []
  try rfl

/-- The gain the launch prepares is the argument as one row. -/
theorem V_g (c : Dev nD) (n : Fin 2048) :
    V m c main_v1 (ix2 0 n) = m ((c : Thread nD τ).loc main_arg1) (ix1 n) := by
  entry_read
  pointwise []
  try rfl

/-- The windows' block indices at a grid point. -/
theorem idx_facts : ∀ t : Fin cfg0.N,
    win0_0.index t (0 : Fin 2) = t.val / 1 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 1
    ∧ win0_3.index t (0 : Fin 2) = t.val / 1 ∧ win0_3.index t (1 : Fin 2) = t.val % 1
    ∧ (cfg0.win 3).flush t = true :=
  (by decide +kernel : ∀ t : Fin grid0.N, _)

/-- The input rows staged at point `t`. -/
theorem iblk0_apply (c : Dev nD) (t : Fin cfg0.N) (r : Fin 512) (k : Fin 2048) (R : Fin 2048) (hR : R.val = t.val / 1 * 512 + r.val) :
    (iblk m c 0 t : S512x2048.Idx → EReal) (ix2 r k) = m ((c : Thread nD τ).loc main_arg0) (ix2 R k) := by
  obtain ⟨e0, e0', -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The gain staged at point `t`. -/
theorem iblk1_apply (c : Dev nD) (t : Fin cfg0.N) (k : Fin 2048) :
    (iblk m c 1 t : S1x2048.Idx → EReal) (ix2 0 k) = m ((c : Thread nD τ).loc main_arg1) (ix1 k) := by
  obtain ⟨-, -, e0, e0', -⟩ := idx_facts t
  rw [← V_g m c]
  show V m c main_v1 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The weight block staged at point `t`. -/
theorem iblk2_apply (c : Dev nD) (t : Fin cfg0.N) (k : Fin 2048) (n : Fin 1024) (N : Fin 1024) (hN : N.val = t.val % 1 * 1024 + n.val) :
    (iblk m c 2 t : S2048x1024.Idx → EReal) (ix2 k n) = m ((c : Thread nD τ).loc main_arg2) (ix2 k N) := by
  obtain ⟨-, -, -, -, e0, e0', -⟩ := idx_facts t
  rw [← V_w m c]
  show V m c main_v0 (((cfg0.win 2).blk t).view.emb (ix2 k n)) = _
  refine congrArg _ (funext fun a => Fin.ext ?_)
  match a with
  | ⟨0, _⟩ => show win0_2.index t (0 : Fin 2) * 2048 + 1 * k.val = k.val; omega
  | ⟨1, _⟩ => show win0_2.index t (1 : Fin 2) * 1024 + 1 * n.val = N.val; omega

/-- At every point the output block is the normalised rows times the point's weight block. -/
theorem out_eq (c : Dev nD) (t : Fin cfg0.N) : outsAt0 m c t = k0_pay2 (F := Ideal) (k0_pay1 (F := Ideal) (iblk m c 0 t) (iblk m c 1 t)) (iblk m c 2 t) := by
  unfold outsAt0
  rw [outA]

/-- What the result array is proved to hold: the reference's value at the arguments. -/
abbrev G (c : Dev nD) : S2048x1024.Idx → Elt Ideal .f32 :=
  Cert.KvRefIdeal.Read.val_main_v13 (F := Ideal) (m ((c : Thread nD τ).loc main_arg0)) (m ((c : Thread nD τ).loc main_arg1))
    (m ((c : Thread nD τ).loc main_arg2))

/-- What point `t` writes back is block `t` of the reference's value. -/
theorem flushed_eq (c : Dev nD) (t : Fin cfg0.N) :
    (dats m 0 c).flushed 3 t = ((cfg0.win 3).blk t).view.read (Elt Ideal) (G m c) := by
  rw [Value.flushed3, out_eq]
  have ht : t.val < 4 := lt_of_lt_of_eq t.isLt N_0
  obtain ⟨-, -, -, -, -, -, e3, e3', -⟩ := idx_facts t
  funext y
  have hy0 : (y 0).val < 512 := (y 0).isLt
  have hy1 : (y 1).val < 1024 := (y 1).isLt
  have hyy : (y : S512x1024.Idx) = ix2 (⟨(y 0).val, hy0⟩ : Fin 512) (⟨(y 1).val, hy1⟩ : Fin 1024) := by
    funext a; apply Fin.ext
    match a with
    | ⟨0, _⟩ => rfl
    | ⟨1, _⟩ => rfl
  refine (congrArg (k0_pay2 (F := Ideal) (k0_pay1 (F := Ideal) (iblk m c 0 t) (iblk m c 1 t)) (iblk m c 2 t)) hyy).trans ?_
  show _ = G m c (((cfg0.win 3).blk t).view.emb y)
  have hR : t.val / 1 * 512 + (y 0).val < 2048 := by omega
  have hN : t.val % 1 * 1024 + (y 1).val < 1024 := by omega
  have hemb : ((cfg0.win 3).blk t).view.emb y = ix2 (⟨t.val / 1 * 512 + (y 0).val, hR⟩ : Fin 2048)
      (⟨t.val % 1 * 1024 + (y 1).val, hN⟩ : Fin 1024) := by
    funext a; apply Fin.ext
    match a with
    | ⟨0, _⟩ => show win0_3.index t (0 : Fin 2) * 512 + 1 * (y 0).val = t.val / 1 * 512 + (y 0).val; omega
    | ⟨1, _⟩ => show win0_3.index t (1 : Fin 2) * 1024 + 1 * (y 1).val = t.val % 1 * 1024 + (y 1).val; omega
  rw [hemb, pay2_apply]
  refine Eq.trans ?_ (ref_apply _ _ _ _ _).symm
  refine Finset.sum_congr rfl fun k _ => congrArg₂ (· * ·) ?_ ?_
  · rw [pay1_apply]; exact rmsRow_congr (fun k => iblk0_apply m c t ⟨(y 0).val, hy0⟩ k ⟨_, hR⟩ rfl) (fun k => iblk1_apply m c t k) k
  · exact iblk2_apply m c t k ⟨(y 1).val, hy1⟩ ⟨_, hN⟩ rfl

/-- Every element of the result is in some point's block. -/
theorem cover (i : S2048x1024.Idx) : ∃ t : Fin cfg0.N, (cfg0.win 3).flush t = true ∧ i ∈ ((cfg0.win 3).blk t).view.set := by
  have hi0 : (i 0).val < 2048 := (i 0).isLt
  have hi1 : (i 1).val < 1024 := (i 1).isLt
  have ht : (i 0).val / 512 * 1 + (i 1).val / 1024 < cfg0.N := lt_of_lt_of_eq (by omega) N_0.symm
  obtain ⟨-, -, -, -, -, -, e3, e3', hf⟩ := idx_facts ⟨_, ht⟩
  dsimp only at e3 e3'
  refine ⟨⟨_, ht⟩, hf, ?_⟩
  show i ∈ ((View.whole main_v2).slice (win0_3.rect ⟨_, ht⟩)).set
  rw [View.set_slice_whole, Rect.mem_set_unit]
  intro a
  match a with
  | ⟨0, _⟩ =>
    show win0_3.index ⟨_, ht⟩ (0 : Fin 2) * 512 ≤ (i 0).val ∧ (i 0).val < win0_3.index ⟨_, ht⟩ (0 : Fin 2) * 512 + 512
    rw [e3]; omega
  | ⟨1, _⟩ =>
    show win0_3.index ⟨_, ht⟩ (1 : Fin 2) * 1024 ≤ (i 1).val ∧ (i 1).val < win0_3.index ⟨_, ht⟩ (1 : Fin 2) * 1024 + 1024
    rw [e3']; omega

/-- The result array after the run is the reference's value. -/
theorem final (c : Dev nD) : (dats m 0 c).arrAt 3 cfg0.N = G m c :=
  (dats m 0 c).arrAt_eq_of_cover 3 _ (fun t _ => flushed_eq m c t) cover

/-- The kernel leaves what the reference computes. -/
theorem algebraic : Cert.algebraic_KvIdeal_KvRefIdeal (hKvIdeal := Gen.facts) (hKvRefIdeal := Cert.KvRefIdeal.Gen.facts) := by
  intro m ρ m' ρ' _ hagree
  refine ⟨fun c => G m c, ?_, ?_⟩
  · exact (θ_run _ _ _).mono (fun r h c => ⟨(h c).1.trans (final m c), (h c).2⟩) (Value.run_blocks m ρ)
  · refine (θ_run _ _ _).mono (fun r h c => ⟨?_, (h c).2⟩) (Cert.KvRefIdeal.Value.run (F := Ideal) m' ρ')
    rw [(h c).1]
    have ha := hagree c
    show _ = Cert.KvRefIdeal.Read.val_main_v13 (F := Ideal) _ _ _
    rw [← ha.1, ← ha.2.1, ← ha.2.2]
    rfl

end Cert.KvIdeal.Hand

end
-- ==== Proof.OutProjValue.lean ====
/- The attention output projection `x + oa @ Wa + ob @ Wb` (program `OutProjIdeal`): what one block computes, what the
   result array holds, and that it is the reference's `x + concat(oa, ob) @ W`. -/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.Claim

@[expose] public section

noncomputable section

namespace Cert.OutProjIdeal.Hand

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One block: `x + oa @ wa + ob @ wb` at an element. -/
theorem pay_apply (x a b : FVec Ideal S512x1024 .f32) (wa wb : FVec Ideal S1024x1024 .bf16) (r : Fin 512) (n : Fin 1024) :
    k0_pay1 (F := Ideal) x a wa b wb (ix2 r n)
      = x (ix2 r n) + (∑ k : Fin 1024, a (ix2 r k) * wa (ix2 k n)) + ∑ k : Fin 1024, b (ix2 r k) * wb (ix2 k n) := by
  pointwise [k0_pay1]

/-- The reference at an element: the product over the joined columns is the sum of the products over each part. -/
theorem ref_apply (x : FVec Ideal S16384x2048 .f32) (a b : FVec Ideal S16384x1024 .f32) (w : FVec Ideal S2048x2048 .f32)
    (r : Fin 16384) (n : Fin 2048) :
    Cert.OutProjRefIdeal.Read.val_main_v2 (F := Ideal) x a b w (ix2 r n)
      = x (ix2 r n) + (∑ k : Fin 1024, a (ix2 r k) * w (ix2 ⟨k, by omega⟩ n))
        + ∑ k : Fin 1024, b (ix2 r k) * w (ix2 ⟨1024 + k, by omega⟩ n) := by
  pointwise [Cert.OutProjRefIdeal.Read.val_main_v2, Cert.OutProjRefIdeal.Read.val_main_v1, Cert.OutProjRefIdeal.Read.val_main_v0]
  rw [add_assoc]

/-- The start of a whole block is zero on both axes. -/
theorem hz : (![0, 0] : Fin 2 → Nat) = fun _ => 0 := funext fun a => by fin_cases a <;> rfl

/-- The windows' block indices at a grid point, from the output window's. -/
theorem idx_facts : ∀ t : Fin cfg0.N,
    win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) < 32 ∧ win0_5.index t (1 : Fin 2) < 2 :=
  (by decide +kernel : ∀ t : Fin grid0.N, _)

/-- Every block of the output is some grid point's. -/
theorem idx_onto : ∀ (p : Fin 32) (q : Fin 2), ∃ t : Fin cfg0.N, (cfg0.win 5).flush t = true ∧ win0_5.index t = ![p.val, q.val] :=
  (by decide +kernel : ∀ (p : Fin 32) (q : Fin 2), ∃ t : Fin grid0.N, win0_5.flush t = true ∧ win0_5.index t = ![p.val, q.val])

/-- What the result array is proved to hold: the reference's value at the arguments. -/
abbrev G (c : Dev nD) : S16384x2048.Idx → Elt Ideal .f32 :=
  Cert.OutProjRefIdeal.Read.val_main_v2 (F := Ideal) (m ((c : Thread nD τ).loc main_arg0)) (m ((c : Thread nD τ).loc main_arg1))
    (m ((c : Thread nD τ).loc main_arg2)) (m ((c : Thread nD τ).loc main_arg3))

/-- The first weight block is rows 0 to 1023 of the weight. -/
theorem V_wa (c : Dev nD) (k : Fin 1024) (n : Fin 2048) :
    V m c main_v1 (ix2 k n) = m ((c : Thread nD τ).loc main_arg3) (ix2 ⟨k.val, by omega⟩ n) := by
  entry_read
  pointwise []
  try rfl

/-- The second weight block is rows 1024 to 2047 of the weight. -/
theorem V_wb (c : Dev nD) (k : Fin 1024) (n : Fin 2048) :
    V m c main_v3 (ix2 k n) = m ((c : Thread nD τ).loc main_arg3) (ix2 ⟨1024 + k.val, by omega⟩ n) := by
  entry_read
  pointwise []
  try rfl

/-- What point `t` writes back is block `t` of the reference's value. -/
theorem flushed_eq (c : Dev nD) (t : Fin cfg0.N) (hf : (cfg0.win 5).flush t = true) :
    (dats m 0 c).flushed 5 t = ((cfg0.win 5).blk t).view.read (Elt Ideal) (G m c) := by
  rw [Value.flushed5]
  obtain ⟨e0, e0', e1, e1', e2, e2', e3, e3', e4, e4', hI, hJ⟩ := idx_facts t
  funext y
  have hy0 : (y 0).val < 512 := (y 0).isLt
  have hy1 : (y 1).val < 1024 := (y 1).isLt
  unfold out0_5
  rw [View.canon_unit_zero hz, View.ld_unit_zero hz, View.ld_unit_zero hz, View.ld_unit_zero hz, View.ld_unit_zero hz, View.ld_unit_zero hz]
  have hyy : (y : S512x1024.Idx) = ix2 (⟨(y 0).val, hy0⟩ : Fin 512) (⟨(y 1).val, hy1⟩ : Fin 1024) := by
    funext a; apply Fin.ext
    match a with
    | ⟨0, _⟩ => rfl
    | ⟨1, _⟩ => rfl
  refine (congrArg (k0_pay1 (F := Ideal) (iblk m c 0 t) (iblk m c 1 t) (iblk m c 3 t) (iblk m c 2 t) (iblk m c 4 t)) hyy).trans ?_
  show _ = G m c (((cfg0.win 5).blk t).view.emb y)
  have hR : win0_5.index t (0 : Fin 2) * 512 + (y 0).val < 16384 := by omega
  have hN : win0_5.index t (1 : Fin 2) * 1024 + (y 1).val < 2048 := by omega
  have hemb : ((cfg0.win 5).blk t).view.emb y = ix2 (⟨win0_5.index t (0 : Fin 2) * 512 + (y 0).val, hR⟩ : Fin 16384)
      (⟨win0_5.index t (1 : Fin 2) * 1024 + (y 1).val, hN⟩ : Fin 2048) := by
    funext a; apply Fin.ext
    match a with
    | ⟨0, _⟩ => show win0_5.index t (0 : Fin 2) * 512 + 1 * (y 0).val = win0_5.index t (0 : Fin 2) * 512 + (y 0).val; omega
    | ⟨1, _⟩ => show win0_5.index t (1 : Fin 2) * 1024 + 1 * (y 1).val = win0_5.index t (1 : Fin 2) * 1024 + (y 1).val; omega
  rw [hemb, pay_apply]
  refine Eq.trans ?_ (ref_apply _ _ _ _ _ _).symm
  have h0 : ∀ (r : Fin 512) (n : Fin 1024) (R : Fin 16384) (N : Fin 2048), R.val = win0_5.index t (0 : Fin 2) * 512 + r.val →
      N.val = win0_5.index t (1 : Fin 2) * 1024 + n.val →
      (iblk m c 0 t : S512x1024.Idx → EReal) (ix2 r n) = m ((c : Thread nD τ).loc main_arg0) (ix2 R N) := by
    intro r n R N hr hn
    show V m c main_arg0 (((cfg0.win 0).blk t).view.emb (ix2 r n)) = _
    rw [V_main_arg0]
    refine congrArg _ (funext fun a => Fin.ext ?_)
    match a with
    | ⟨0, _⟩ => show win0_0.index t (0 : Fin 2) * 512 + 1 * r.val = R.val; omega
    | ⟨1, _⟩ => show win0_0.index t (1 : Fin 2) * 1024 + 1 * n.val = N.val; omega
  have h1 : ∀ (r : Fin 512) (k : Fin 1024) (R : Fin 16384), R.val = win0_5.index t (0 : Fin 2) * 512 + r.val →
      (iblk m c 1 t : S512x1024.Idx → EReal) (ix2 r k) = m ((c : Thread nD τ).loc main_arg1) (ix2 R k) := by
    intro r k R hr
    show V m c main_arg1 (((cfg0.win 1).blk t).view.emb (ix2 r k)) = _
    rw [V_main_arg1]
    refine congrArg _ (funext fun a => Fin.ext ?_)
    match a with
    | ⟨0, _⟩ => show win0_1.index t (0 : Fin 2) * 512 + 1 * r.val = R.val; omega
    | ⟨1, _⟩ => show win0_1.index t (1 : Fin 2) * 1024 + 1 * k.val = k.val; omega
  have h2 : ∀ (r : Fin 512) (k : Fin 1024) (R : Fin 16384), R.val = win0_5.index t (0 : Fin 2) * 512 + r.val →
      (iblk m c 2 t : S512x1024.Idx → EReal) (ix2 r k) = m ((c : Thread nD τ).loc main_arg2) (ix2 R k) := by
    intro r k R hr
    show V m c main_arg2 (((cfg0.win 2).blk t).view.emb (ix2 r k)) = _
    rw [V_main_arg2]
    refine congrArg _ (funext fun a => Fin.ext ?_)
    match a with
    | ⟨0, _⟩ => show win0_2.index t (0 : Fin 2) * 512 + 1 * r.val = R.val; omega
    | ⟨1, _⟩ => show win0_2.index t (1 : Fin 2) * 1024 + 1 * k.val = k.val; omega
  have h3 : ∀ (k n : Fin 1024) (N : Fin 2048), N.val = win0_5.index t (1 : Fin 2) * 1024 + n.val →
      (iblk m c 3 t : S1024x1024.Idx → EReal) (ix2 k n) = m ((c : Thread nD τ).loc main_arg3) (ix2 (⟨k.val, by omega⟩ : Fin 2048) N) := by
    intro k n N hn
    rw [← V_wa m c]
    show V m c main_v1 (((cfg0.win 3).blk t).view.emb (ix2 k n)) = _
    refine congrArg _ (funext fun a => Fin.ext ?_)
    match a with
    | ⟨0, _⟩ => show win0_3.index t (0 : Fin 2) * 1024 + 1 * k.val = k.val; omega
    | ⟨1, _⟩ => show win0_3.index t (1 : Fin 2) * 1024 + 1 * n.val = N.val; omega
  have h4 : ∀ (k n : Fin 1024) (N : Fin 2048), N.val = win0_5.index t (1 : Fin 2) * 1024 + n.val →
      (iblk m c 4 t : S1024x1024.Idx → EReal) (ix2 k n) = m ((c : Thread nD τ).loc main_arg3) (ix2 (⟨1024 + k.val, by omega⟩ : Fin 2048) N) := by
    intro k n N hn
    rw [← V_wb m c]
    show V m c main_v3 (((cfg0.win 4).blk t).view.emb (ix2 k n)) = _
    refine congrArg _ (funext fun a => Fin.ext ?_)
    match a with
    | ⟨0, _⟩ => show win0_4.index t (0 : Fin 2) * 1024 + 1 * k.val = k.val; omega
    | ⟨1, _⟩ => show win0_4.index t (1 : Fin 2) * 1024 + 1 * n.val = N.val; omega
  refine congrArg₂ (· + ·) (congrArg₂ (· + ·) (h0 ⟨(y 0).val, hy0⟩ ⟨(y 1).val, hy1⟩ ⟨_, hR⟩ ⟨_, hN⟩ rfl rfl) (Finset.sum_congr rfl fun k _ => ?_)) (Finset.sum_congr rfl fun k _ => ?_)
  · exact congrArg₂ (· * ·) (h1 ⟨(y 0).val, hy0⟩ k ⟨_, hR⟩ rfl) (h3 k ⟨(y 1).val, hy1⟩ ⟨_, hN⟩ rfl)
  · exact congrArg₂ (· * ·) (h2 ⟨(y 0).val, hy0⟩ k ⟨_, hR⟩ rfl) (h4 k ⟨(y 1).val, hy1⟩ ⟨_, hN⟩ rfl)

/-- Every element of the result is in some point's block. -/
theorem cover (i : S16384x2048.Idx) : ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, hft, ht⟩ := idx_onto ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, hft, ?_⟩
  show i ∈ ((View.whole main_v4).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The result array after the run is the reference's value. -/
theorem final (c : Dev nD) : (dats m 0 c).arrAt 5 cfg0.N = G m c :=
  (dats m 0 c).arrAt_eq_of_cover 5 _ (fun t hf => flushed_eq m c t hf) cover

/-- The kernel leaves what the reference computes. -/
theorem algebraic : Cert.algebraic_OutProjIdeal_OutProjRefIdeal (hOutProjIdeal := Gen.facts) (hOutProjRefIdeal := Cert.OutProjRefIdeal.Gen.facts) := by
  intro m ρ m' ρ' _ hagree
  refine ⟨fun c => G m c, ?_, ?_⟩
  · exact (θ_run _ _ _).mono (fun r h c => ⟨(h c).1.trans (final m c), (h c).2⟩) (Value.run_blocks m ρ)
  · refine (θ_run _ _ _).mono (fun r h c => ⟨?_, (h c).2⟩) (Cert.OutProjRefIdeal.Value.run (F := Ideal) m' ρ')
    rw [(h c).1]
    have ha := hagree c
    show _ = Cert.OutProjRefIdeal.Read.val_main_v2 (F := Ideal) _ _ _ _
    rw [← ha.1, ← ha.2.1, ← ha.2.2.1, ← ha.2.2.2]
    rfl

end Cert.OutProjIdeal.Hand

end
-- ==== Proof.XattnBlock.lean ====
/- Cross-attention: what one block of the kernel computes and what the reference computes, element by element. -/
module

public import proofs.«01_k».proof.Defs
public import proofs.«01_k».proof.Proof.RowMath
public import proofs.«01_k».proof.Proof.Gen.XattnIdeal.Value
public import proofs.«01_k».proof.Proof.Gen.XattnRefIdeal.Run
public import proofs.«01_k».proof.Proof.Gen.XattnRefIdeal.Read
public import Idealize.ShloMosaic.Lib.Pointwise
public import Idealize.ShloMosaic.Lib.Claim

@[expose] public section

noncomputable section

namespace Cert.XattnIdeal.Hand

open Cert.XattnIdeal Cert.XattnIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The block's query projection at an element. -/
theorem pay3_apply (x : FVec Ideal S1x512x2048 .f32) (g : FVec Ideal S1x2048 .f32) (w : FVec Ideal S2048x512 .bf16) (r : Fin 512) (n : Fin 512) :
    k0_pay3 (F := Ideal) x g w (ix2 r n) = ∑ k : Fin 2048, rmsRow (fun k => x (ix3 0 r k)) (fun k => g (ix2 0 k)) k * w (ix2 k n) := by
  unfold rmsRow
  pointwise [k0_pay3, k0_pay2]

/-- The first head's attention at an element. -/
theorem pay7_apply (x : FVec Ideal S1x512x2048 .f32) (g : FVec Ideal S1x2048 .f32) (w : FVec Ideal S2048x512 .bf16) (kv : FVec Ideal S1x256x1024 .f32) (r : Fin 512) (d : Fin 128) :
    k0_pay7 (F := Ideal) (k0_pay5 kv) (k0_pay6 x g w kv) (ix2 r d) = attn (fun d => k0_pay3 (F := Ideal) x g w (ix2 r ⟨d.val, by omega⟩)) (fun j d => kv (ix3 0 j ⟨d.val, by omega⟩)) (fun j => kv (ix3 0 j ⟨512 + d.val, by omega⟩)) := by
  unfold attn top logit
  pointwise [k0_pay7, k0_pay6, k0_pay5, k0_pay4]

/-- The second head's attention at an element. -/
theorem pay8_apply (q : FVec Ideal S512x512 .f32) (kv : FVec Ideal S1x256x1024 .f32) (r : Fin 512) (d : Fin 128) :
    k0_pay8 (F := Ideal) q (k0_pay4 kv) (ix2 r d) = attn (fun d => q (ix2 r ⟨128 + d.val, by omega⟩)) (fun j d => kv (ix3 0 j ⟨128 + d.val, by omega⟩)) (fun j => kv (ix3 0 j ⟨640 + d.val, by omega⟩)) := by
  unfold attn top logit
  pointwise [k0_pay8, k0_pay4]

/-- The third head's attention at an element. -/
theorem pay9_apply (q : FVec Ideal S512x512 .f32) (kv : FVec Ideal S1x256x1024 .f32) (r : Fin 512) (d : Fin 128) :
    k0_pay9 (F := Ideal) q (k0_pay4 kv) (ix2 r d) = attn (fun d => q (ix2 r ⟨256 + d.val, by omega⟩)) (fun j d => kv (ix3 0 j ⟨256 + d.val, by omega⟩)) (fun j => kv (ix3 0 j ⟨768 + d.val, by omega⟩)) := by
  unfold attn top logit
  pointwise [k0_pay9, k0_pay4]

/-- The whole block at an element: the input plus the heads' outputs times the output weight. -/
theorem block_apply (x : FVec Ideal S1x512x2048 .f32) (g : FVec Ideal S1x2048 .f32) (wq : FVec Ideal S2048x512 .bf16) (kv : FVec Ideal S1x256x1024 .f32) (w : FVec Ideal S512x2048 .bf16) (r : Fin 512) (n : Fin 2048) :
    k0_pay1 (F := Ideal) (k0_pay2 x) (k0_pay7 (k0_pay5 kv) (k0_pay6 x g wq kv)) (k0_pay8 (k0_pay3 x g wq) (k0_pay4 kv)) (k0_pay9 (k0_pay3 x g wq) (k0_pay4 kv)) (k0_pay10 (k0_pay4 kv)) (k0_pay11 (k0_pay3 x g wq) (k0_pay4 kv)) w (ix3 0 r n)
      = x (ix3 0 r n) + ∑ k : Fin 512, attn (fun d => k0_pay3 (F := Ideal) x g wq (ix2 r ⟨k.val / 128 * 128 + d.val, by omega⟩))
          (fun j d => kv (ix3 0 j ⟨k.val / 128 * 128 + d.val, by omega⟩)) (fun j => kv (ix3 0 j ⟨512 + k.val, by omega⟩)) * w (ix2 k n) := by
  pointwise [k0_pay1, k0_pay2, k0_pay10, k0_pay11, k0_pay4]
  refine congrArg (x (ix3 0 r n) + ·) (Finset.sum_congr rfl fun k _ => congrArg (· * w (ix2 k n)) ?_)
  have hk := k.isLt
  by_cases h1 : k.val < 128
  · refine (dif_pos h1).trans ?_
    refine (pay7_apply x g wq kv r ⟨k.val, h1⟩).trans ?_
    refine attn_congr (fun d => ?_) (fun j d => ?_) (fun j => ?_)
    · exact congrArg (fun e => k0_pay3 (F := Ideal) x g wq (ix2 r e)) (Fin.ext (by first | rfl | (dsimp only; omega)))
    · exact congrArg (fun e => kv (ix3 0 j e)) (Fin.ext (by first | rfl | (dsimp only; omega)))
    · exact congrArg (fun e => kv (ix3 0 j e)) (Fin.ext (by first | rfl | (dsimp only; omega)))
  refine (dif_neg h1).trans ?_
  by_cases h2 : k.val - 128 < 128
  · refine (dif_pos h2).trans ?_
    refine (pay8_apply (k0_pay3 x g wq) kv r ⟨k.val - 128, h2⟩).trans ?_
    refine attn_congr (fun d => ?_) (fun j d => ?_) (fun j => ?_)
    · exact congrArg (fun e => k0_pay3 (F := Ideal) x g wq (ix2 r e)) (Fin.ext (by first | rfl | (dsimp only; omega)))
    · exact congrArg (fun e => kv (ix3 0 j e)) (Fin.ext (by first | rfl | (dsimp only; omega)))
    · exact congrArg (fun e => kv (ix3 0 j e)) (Fin.ext (by first | rfl | (dsimp only; omega)))
  refine (dif_neg h2).trans ?_
  by_cases h3 : k.val - 128 - 128 < 128
  · refine (dif_pos h3).trans ?_
    refine (pay9_apply (k0_pay3 x g wq) kv r ⟨k.val - 128 - 128, h3⟩).trans ?_
    refine attn_congr (fun d => ?_) (fun j d => ?_) (fun j => ?_)
    · exact congrArg (fun e => k0_pay3 (F := Ideal) x g wq (ix2 r e)) (Fin.ext (by first | rfl | (dsimp only; omega)))
    · exact congrArg (fun e => kv (ix3 0 j e)) (Fin.ext (by first | rfl | (dsimp only; omega)))
    · exact congrArg (fun e => kv (ix3 0 j e)) (Fin.ext (by first | rfl | (dsimp only; omega)))
  · refine (dif_neg h3).trans ?_
    refine Eq.trans (b := attn (fun d => k0_pay3 (F := Ideal) x g wq (ix2 r ⟨384 + d.val, by omega⟩)) (fun j d => kv (ix3 0 j ⟨384 + d.val, by omega⟩)) (fun j => kv (ix3 0 j ⟨896 + (k.val - 128 - 128 - 128), by omega⟩))) rfl ?_
    refine attn_congr (fun d => ?_) (fun j d => ?_) (fun j => ?_)
    · exact congrArg (fun e => k0_pay3 (F := Ideal) x g wq (ix2 r e)) (Fin.ext (by first | rfl | (dsimp only; omega)))
    · exact congrArg (fun e => kv (ix3 0 j e)) (Fin.ext (by first | rfl | (dsimp only; omega)))
    · exact congrArg (fun e => kv (ix3 0 j e)) (Fin.ext (by first | rfl | (dsimp only; omega)))

open Cert.XattnRefIdeal.Read

/-- The reference's query projection at an element. -/
theorem ref_q (x0 x1 x2) (b : Fin 8) (s : Fin 2048) (n : Fin 512) :
    val_main_v13 (F := Ideal) x0 x1 x2 (ix3 b s n) = ∑ k : Fin 2048, rmsRow (fun k => x0 (ix3 b s k)) (fun k => x1 (ix1 k)) k * x2 (ix2 k n) := by
  unfold rmsRow
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]

/-- The reference's logits at an element. -/
theorem ref_logit (x0 x1 x2 x3) (b : Fin 8) (h : Fin 4) (s : Fin 2048) (j : Fin 256) :
    val_main_v21 (F := Ideal) x0 x1 x2 x3 (ix4 b h s j) = logit (fun d => val_main_v13 (F := Ideal) x0 x1 x2 (ix3 b s ⟨h.val * 128 + d.val, by omega⟩)) (fun j d => x3 (ix3 b j ⟨h.val * 128 + d.val, by omega⟩)) j := by
  unfold logit
  pointwise [val_main_v14, val_main_v15, val_main_v17, val_main_v19, val_main_v20, val_main_v21, val_main_cst_2]

/-- A maximum along the last axis of a rank-4 array is the fold of `max` over that axis. -/
theorem reduce_top {a b c d : ℕ} {u : Shape} (hR : (⟨4, ![a, b, c, d]⟩ : Shape).ReducesTo [3] ⟨3, ![a, b, c]⟩) (hu : 0 < u.numel)
    (L : (⟨4, ![a, b, c, d]⟩ : Shape).Idx → EReal) (z : u.Idx → EReal) (i : Fin a) (j : Fin b) (k : Fin c) :
    Host.reduce (fun x y : EReal => max x y) L z hR hu (ix3 i j k) = Finset.univ.fold max (z (Shape.Idx.first hu)) fun l : Fin d => L (ix4 i j k l) := by
  rw [Host.reduce_eq_fold (f := fun x y : EReal => max x y), Shape.ReducesTo.fold_fiber_r4_a3]
  rfl

/-- The reference's maximum of a row of logits. -/
theorem ref_top (x0 x1 x2 x3) (b : Fin 8) (h : Fin 4) (s : Fin 2048) :
    val_main_v24 (F := Ideal) x0 x1 x2 x3 (ix3 b h s) = max (Ideal.ofBits FTy.f32 0xFF800000#32) (Finset.univ.fold max (Ideal.ofBits FTy.f32 0xFF800000#32) fun j : Fin 256 => val_main_v21 (F := Ideal) x0 x1 x2 x3 (ix4 b h s j)) := by
  have hv : val_main_v22 (F := Ideal) x0 x1 x2 x3 (ix3 b h s) = Finset.univ.fold max (Ideal.ofBits FTy.f32 0xFF800000#32) fun j : Fin 256 => val_main_v21 (F := Ideal) x0 x1 x2 x3 (ix4 b h s j) := by
    unfold val_main_v22
    generalize val_main_v21 (F := Ideal) x0 x1 x2 x3 = L
    exact reduce_top _ _ L _ b h s
  rw [← hv, val_main_v24_apply, val_main_v23_apply, val_main_cst_4_apply]
  rfl

/-- The reference's exponentials. -/
theorem ref_exp (x0 x1 x2 x3) (b : Fin 8) (h : Fin 4) (s : Fin 2048) (j : Fin 256) :
    val_main_v28 (F := Ideal) x0 x1 x2 x3 (ix4 b h s j) = Ideal.exp (val_main_v21 (F := Ideal) x0 x1 x2 x3 (ix4 b h s j) - val_main_v24 (F := Ideal) x0 x1 x2 x3 (ix3 b h s)) := by
  pointwise [val_main_v25, val_main_v26, val_main_v27, val_main_v28]

/-- The reference's softmax weights. -/
theorem ref_p (x0 x1 x2 x3) (b : Fin 8) (h : Fin 4) (s : Fin 2048) (j : Fin 256) :
    val_main_v32 (F := Ideal) x0 x1 x2 x3 (ix4 b h s j) = Ideal.div (val_main_v28 (F := Ideal) x0 x1 x2 x3 (ix4 b h s j)) (∑ i : Fin 256, val_main_v28 (F := Ideal) x0 x1 x2 x3 (ix4 b h s i)) := by
  pointwise [val_main_cst_5, val_main_v29, val_main_v30, val_main_v31, val_main_v32]

/-- The reference's weighted sum of the values, its heads side by side. -/
theorem ref_pv (x0 x1 x2 x3) (b : Fin 8) (s : Fin 2048) (n : Fin 512) :
    val_main_v35 (F := Ideal) x0 x1 x2 x3 (ix3 b s n) = ∑ j : Fin 256, x3 (ix3 b j ⟨512 + n.val, by omega⟩) * val_main_v32 (F := Ideal) x0 x1 x2 x3 (ix4 b ⟨n.val / 128, by omega⟩ s j) := by
  pointwise [val_main_v16, val_main_v18, val_main_v33, val_main_v34, val_main_v35]

/-- The reference's attention at an element. -/
theorem ref_o (x0 x1 x2 x3) (b : Fin 8) (s : Fin 2048) (n : Fin 512) :
    val_main_v35 (F := Ideal) x0 x1 x2 x3 (ix3 b s n) = attn (fun d => val_main_v13 (F := Ideal) x0 x1 x2 (ix3 b s ⟨n.val / 128 * 128 + d.val, by omega⟩))
      (fun j d => x3 (ix3 b j ⟨n.val / 128 * 128 + d.val, by omega⟩)) (fun j => x3 (ix3 b j ⟨512 + n.val, by omega⟩)) := by
  have hl := ref_logit x0 x1 x2 x3 b ⟨n.val / 128, by omega⟩ s
  have ht : val_main_v24 (F := Ideal) x0 x1 x2 x3 (ix3 b ⟨n.val / 128, by omega⟩ s) = top (fun d => val_main_v13 (F := Ideal) x0 x1 x2 (ix3 b s ⟨n.val / 128 * 128 + d.val, by omega⟩)) (fun j d => x3 (ix3 b j ⟨n.val / 128 * 128 + d.val, by omega⟩)) := by
    rw [ref_top, funext hl]
    exact max_top _ _
  have he : ∀ j, val_main_v28 (F := Ideal) x0 x1 x2 x3 (ix4 b ⟨n.val / 128, by omega⟩ s j) = Ideal.exp (logit (fun d => val_main_v13 (F := Ideal) x0 x1 x2 (ix3 b s ⟨n.val / 128 * 128 + d.val, by omega⟩)) (fun j d => x3 (ix3 b j ⟨n.val / 128 * 128 + d.val, by omega⟩)) j
      - top (fun d => val_main_v13 (F := Ideal) x0 x1 x2 (ix3 b s ⟨n.val / 128 * 128 + d.val, by omega⟩)) (fun j d => x3 (ix3 b j ⟨n.val / 128 * 128 + d.val, by omega⟩))) := by
    intro j
    rw [ref_exp, hl, ht]
  rw [ref_pv]
  unfold attn
  refine Finset.sum_congr rfl fun j _ => ?_
  rw [mul_comm, ref_p, he, Finset.sum_congr rfl fun i _ => he i]

/-- The reference at an element: the input plus the attention times the output weight. -/
theorem ref_out (x0 x1 x2 x3 x4) (b : Fin 8) (s n : Fin 2048) :
    val_main_v37 (F := Ideal) x0 x1 x2 x3 x4 (ix3 b s n) = x0 (ix3 b s n) + ∑ k : Fin 512, val_main_v35 (F := Ideal) x0 x1 x2 x3 (ix3 b s k) * x4 (ix2 k n) := by
  pointwise [val_main_v36, val_main_v37]

end Cert.XattnIdeal.Hand

end
-- ==== Proof.XattnValue.lean ====
/- Cross-attention: what the kernel's result array holds, and that it is the reference's. -/
module

public import proofs.«01_k».proof.Defs
public import proofs.«01_k».proof.Proof.RowMath
public import proofs.«01_k».proof.Proof.Gen.XattnIdeal.Value
public import proofs.«01_k».proof.Proof.Gen.XattnRefIdeal.Run
public import proofs.«01_k».proof.Proof.Gen.XattnRefIdeal.Read
public import proofs.«01_k».proof.Proof.XattnBlock
public import Idealize.ShloMosaic.Lib.Pointwise
public import Idealize.ShloMosaic.Lib.Claim

@[expose] public section

noncomputable section

namespace Cert.XattnIdeal.Hand

open Cert.XattnIdeal Cert.XattnIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The start of a whole block is zero on both axes. -/
theorem hz : (![0, 0] : Fin 2 → Nat) = fun _ => 0 := funext fun a => by fin_cases a <;> rfl
/-- The start of a whole block is zero on its three axes. -/
theorem hz3 : (![0, 0, 0] : Fin 3 → Nat) = fun _ => 0 := funext fun a => by fin_cases a <;> rfl

open Cert.XattnRefIdeal.Read

/-- The gain the launch prepares is the argument as one row. -/
theorem V_g (c : Dev nD) (n : Fin 2048) :
    V m c main_v2 (ix2 0 n) = m ((c : Thread nD τ).loc main_arg1) (ix1 n) := by
  entry_read
  pointwise []
  try rfl

/-- The query weight the launch prepares is the argument. -/
theorem V_wq (c : Dev nD) (k : Fin 2048) (n : Fin 512) :
    V m c main_v0 (ix2 k n) = m ((c : Thread nD τ).loc main_arg2) (ix2 k n) := by
  entry_read
  pointwise []
  try rfl

/-- The output weight the launch prepares is the argument. -/
theorem V_wo (c : Dev nD) (k : Fin 512) (n : Fin 2048) :
    V m c main_v1 (ix2 k n) = m ((c : Thread nD τ).loc main_arg4) (ix2 k n) := by
  entry_read
  pointwise []
  try rfl

/-- The windows' block indices at a grid point. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val / 4 ∧ win0_5.index t (1 : Fin 3) = t.val % 4 ∧ win0_5.index t (2 : Fin 3) = 0
    ∧ (cfg0.win 5).flush t = true :=
  (by decide +kernel : ∀ t : Fin grid0.N, _)

/-- The input rows staged at point `t`. -/
theorem iblk0_apply (c : Dev nD) (t : Fin cfg0.N) (r : Fin 512) (k : Fin 2048) (b : Fin 8) (s : Fin 2048) (hb : b.val = t.val / 4) (hs : s.val = t.val % 4 * 512 + r.val) :
    (iblk m c 0 t : S1x512x2048.Idx → EReal) (ix3 0 r k) = m ((c : Thread nD τ).loc main_arg0) (ix3 b s k) := by
  obtain ⟨e0, e1, e2, -⟩ := idx_facts t
  show V m c main_arg0 (((cfg0.win 0).blk t).view.emb (ix3 0 r k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 2048 + 1 * k.val = k.val; omega

/-- The gain staged at point `t`. -/
theorem iblk1_apply (c : Dev nD) (t : Fin cfg0.N) (k : Fin 2048) :
    (iblk m c 1 t : S1x2048.Idx → EReal) (ix2 0 k) = m ((c : Thread nD τ).loc main_arg1) (ix1 k) := by
  obtain ⟨-, -, -, e0, e1, -⟩ := idx_facts t
  rw [← V_g m c]
  show V m c main_v2 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The query weight staged at point `t`. -/
theorem iblk2_apply (c : Dev nD) (t : Fin cfg0.N) (k : Fin 2048) (n : Fin 512) :
    (iblk m c 2 t : S2048x512.Idx → EReal) (ix2 k n) = m ((c : Thread nD τ).loc main_arg2) (ix2 k n) := by
  obtain ⟨-, -, -, -, -, e0, e1, -⟩ := idx_facts t
  rw [← V_wq m c]
  show V m c main_v0 (((cfg0.win 2).blk t).view.emb (ix2 k n)) = _
  refine congrArg _ (funext fun a => Fin.ext ?_)
  match a with
  | ⟨0, _⟩ => show win0_2.index t (0 : Fin 2) * 2048 + 1 * k.val = k.val; omega
  | ⟨1, _⟩ => show win0_2.index t (1 : Fin 2) * 512 + 1 * n.val = n.val; omega

/-- The keys and values staged at point `t`. -/
theorem iblk3_apply (c : Dev nD) (t : Fin cfg0.N) (j : Fin 256) (n : Fin 1024) (b : Fin 8) (hb : b.val = t.val / 4) :
    (iblk m c 3 t : S1x256x1024.Idx → EReal) (ix3 0 j n) = m ((c : Thread nD τ).loc main_arg3) (ix3 b j n) := by
  obtain ⟨-, -, -, -, -, -, -, e0, e1, e2, -⟩ := idx_facts t
  show V m c main_arg3 (((cfg0.win 3).blk t).view.emb (ix3 0 j n)) = _
  rw [V_main_arg3]
  refine congrArg _ (funext fun a => Fin.ext ?_)
  match a with
  | ⟨0, _⟩ => show win0_3.index t (0 : Fin 3) * 1 + 1 * 0 = b.val; omega
  | ⟨1, _⟩ => show win0_3.index t (1 : Fin 3) * 256 + 1 * j.val = j.val; omega
  | ⟨2, _⟩ => show win0_3.index t (2 : Fin 3) * 1024 + 1 * n.val = n.val; omega

/-- The output weight staged at point `t`. -/
theorem iblk4_apply (c : Dev nD) (t : Fin cfg0.N) (k : Fin 512) (n : Fin 2048) :
    (iblk m c 4 t : S512x2048.Idx → EReal) (ix2 k n) = m ((c : Thread nD τ).loc main_arg4) (ix2 k n) := by
  obtain ⟨-, -, -, -, -, -, -, -, -, -, e0, e1, -⟩ := idx_facts t
  rw [← V_wo m c]
  show V m c main_v1 (((cfg0.win 4).blk t).view.emb (ix2 k n)) = _
  refine congrArg _ (funext fun a => Fin.ext ?_)
  match a with
  | ⟨0, _⟩ => show win0_4.index t (0 : Fin 2) * 512 + 1 * k.val = k.val; omega
  | ⟨1, _⟩ => show win0_4.index t (1 : Fin 2) * 2048 + 1 * n.val = n.val; omega

/-- One block of the kernel's output, as the block's payload of the staged inputs. -/
abbrev blockOut (x : FVec Ideal S1x512x2048 .f32) (g : FVec Ideal S1x2048 .f32) (wq : FVec Ideal S2048x512 .bf16) (kv : FVec Ideal S1x256x1024 .f32) (w : FVec Ideal S512x2048 .bf16) : FVec Ideal S1x512x2048 .f32 :=
  k0_pay1 (F := Ideal) (k0_pay2 x) (k0_pay7 (k0_pay5 kv) (k0_pay6 x g wq kv)) (k0_pay8 (k0_pay3 x g wq) (k0_pay4 kv)) (k0_pay9 (k0_pay3 x g wq) (k0_pay4 kv)) (k0_pay10 (k0_pay4 kv)) (k0_pay11 (k0_pay3 x g wq) (k0_pay4 kv)) w

/-- The frame's output term is the block's payload. -/
theorem out_eq (x : FVec Ideal S1x512x2048 .f32) (g : FVec Ideal S1x2048 .f32) (wq : FVec Ideal S2048x512 .bf16) (kv : FVec Ideal S1x256x1024 .f32) (w : FVec Ideal S512x2048 .bf16) :
    out0_5 (F := Ideal) x g wq kv w = blockOut x g wq kv w := by
  unfold_out out0_5
  rw [View.canon_unit_zero hz3]
  simp only [View.ld_unit_zero (S := S1x512x2048) hz3, View.ld_unit_zero (S := S1x256x1024) hz3, View.ld_unit_zero (S := S1x2048) hz, View.ld_unit_zero (S := S2048x512) hz, View.ld_unit_zero (S := S512x2048) hz]

/-- What the result array is proved to hold: the reference's value at the arguments. -/
abbrev G (c : Dev nD) : S8x2048x2048.Idx → Elt Ideal .f32 :=
  val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What point `t` writes back is block `t` of the reference's value. -/
theorem flushed_eq (c : Dev nD) (t : Fin cfg0.N) :
    (dats m 0 c).flushed 5 t = ((cfg0.win 5).blk t).view.read (Elt Ideal) (G m c) := by
  rw [Value.flushed5, out_eq]
  have ht : t.val < 32 := lt_of_lt_of_eq t.isLt N_0
  obtain ⟨-, -, -, -, -, -, -, -, -, -, -, -, e0, e1, e2, -⟩ := idx_facts t
  funext y
  have hy0 : (y 0).val < 1 := (y 0).isLt
  have hy1 : (y 1).val < 512 := (y 1).isLt
  have hy2 : (y 2).val < 2048 := (y 2).isLt
  have hyy : (y : S1x512x2048.Idx) = ix3 (0 : Fin 1) (⟨(y 1).val, hy1⟩ : Fin 512) (⟨(y 2).val, hy2⟩ : Fin 2048) := by
    funext a; apply Fin.ext
    match a with
    | ⟨0, _⟩ => show (y 0).val = 0; omega
    | ⟨1, _⟩ => rfl
    | ⟨2, _⟩ => rfl
  refine (congrArg (blockOut (iblk m c 0 t) (iblk m c 1 t) (iblk m c 2 t) (iblk m c 3 t) (iblk m c 4 t)) hyy).trans ?_
  show _ = G m c (((cfg0.win 5).blk t).view.emb y)
  have hb : t.val / 4 < 8 := by omega
  have hs : t.val % 4 * 512 + (y 1).val < 2048 := by omega
  have hemb : ((cfg0.win 5).blk t).view.emb y = ix3 (⟨t.val / 4, hb⟩ : Fin 8) (⟨t.val % 4 * 512 + (y 1).val, hs⟩ : Fin 2048) (⟨(y 2).val, hy2⟩ : Fin 2048) := by
    funext a; apply Fin.ext
    match a with
    | ⟨0, _⟩ => show win0_5.index t (0 : Fin 3) * 1 + 1 * (y 0).val = t.val / 4; omega
    | ⟨1, _⟩ => show win0_5.index t (1 : Fin 3) * 512 + 1 * (y 1).val = t.val % 4 * 512 + (y 1).val; omega
    | ⟨2, _⟩ => show win0_5.index t (2 : Fin 3) * 2048 + 1 * (y 2).val = (y 2).val; omega
  rw [hemb]
  refine (block_apply _ _ _ _ _ _ _).trans ?_
  refine Eq.trans ?_ (ref_out _ _ _ _ _ _ _ _).symm
  have hq : ∀ n : Fin 512, k0_pay3 (F := Ideal) (iblk m c 0 t) (iblk m c 1 t) (iblk m c 2 t) (ix2 ⟨(y 1).val, hy1⟩ n)
      = val_main_v13 (F := Ideal) (m ((c : Thread nD τ).loc main_arg0)) (m ((c : Thread nD τ).loc main_arg1)) (m ((c : Thread nD τ).loc main_arg2)) (ix3 ⟨t.val / 4, hb⟩ ⟨t.val % 4 * 512 + (y 1).val, hs⟩ n) := by
    intro n
    rw [pay3_apply, ref_q]
    exact Finset.sum_congr rfl fun k _ => congrArg₂ (fun a b : EReal => a * b)
      (rmsRow_congr (fun k => iblk0_apply m c t ⟨(y 1).val, hy1⟩ k ⟨t.val / 4, hb⟩ ⟨_, hs⟩ rfl rfl) (fun k => iblk1_apply m c t k) k) (iblk2_apply m c t k n)
  refine congrArg₂ (fun a b : EReal => a + b) (iblk0_apply m c t ⟨(y 1).val, hy1⟩ ⟨(y 2).val, hy2⟩ ⟨t.val / 4, hb⟩ ⟨_, hs⟩ rfl rfl)
    (Finset.sum_congr rfl fun k _ => congrArg₂ (fun a b : EReal => a * b) ?_ (iblk4_apply m c t k ⟨(y 2).val, hy2⟩))
  rw [ref_o]
  exact attn_congr (fun d => hq _) (fun j d => iblk3_apply m c t j _ ⟨t.val / 4, hb⟩ rfl) (fun j => iblk3_apply m c t j _ ⟨t.val / 4, hb⟩ rfl)

/-- Every element of the result is in some point's block. -/
theorem cover (i : S8x2048x2048.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  have ht : (i 0).val * 4 + (i 1).val / 512 < cfg0.N := lt_of_lt_of_eq (by omega) N_0.symm
  obtain ⟨-, -, -, -, -, -, -, -, -, -, -, -, e0, e1, e2, hf⟩ := idx_facts ⟨_, ht⟩
  dsimp only at e0 e1 e2
  refine ⟨⟨_, ht⟩, hf, ?_⟩
  show i ∈ ((View.whole main_v3).slice (win0_5.rect ⟨_, ht⟩)).set
  rw [View.set_slice_whole, Rect.mem_set_unit]
  intro a
  match a with
  | ⟨0, _⟩ =>
    show win0_5.index ⟨_, ht⟩ (0 : Fin 3) * 1 ≤ (i 0).val ∧ (i 0).val < win0_5.index ⟨_, ht⟩ (0 : Fin 3) * 1 + 1
    rw [e0]; omega
  | ⟨1, _⟩ =>
    show win0_5.index ⟨_, ht⟩ (1 : Fin 3) * 512 ≤ (i 1).val ∧ (i 1).val < win0_5.index ⟨_, ht⟩ (1 : Fin 3) * 512 + 512
    rw [e1]; omega
  | ⟨2, _⟩ =>
    show win0_5.index ⟨_, ht⟩ (2 : Fin 3) * 2048 ≤ (i 2).val ∧ (i 2).val < win0_5.index ⟨_, ht⟩ (2 : Fin 3) * 2048 + 2048
    rw [e2]; omega

/-- The result array after the run is the reference's value. -/
theorem final (c : Dev nD) : (dats m 0 c).arrAt 5 cfg0.N = G m c :=
  (dats m 0 c).arrAt_eq_of_cover 5 _ (fun t _ => flushed_eq m c t) cover

/-- The kernel leaves what the reference computes. -/
theorem algebraic : Cert.algebraic_XattnIdeal_XattnRefIdeal (hXattnIdeal := Gen.facts) (hXattnRefIdeal := Cert.XattnRefIdeal.Gen.facts) := by
  intro m ρ m' ρ' _ hagree
  refine ⟨fun c => G m c, ?_, ?_⟩
  · exact (θ_run _ _ _).mono (fun r h c => ⟨(h c).1.trans (final m c), (h c).2⟩) (Value.run_blocks m ρ)
  · refine (θ_run _ _ _).mono (fun r h c => ⟨?_, (h c).2⟩) (Cert.XattnRefIdeal.Value.run (F := Ideal) m' ρ')
    rw [(h c).1]
    have ha := hagree c
    show _ = val_main_v37 (F := Ideal) _ _ _ _ _
    rw [← ha.1, ← ha.2.1, ← ha.2.2.1, ← ha.2.2.2.1, ← ha.2.2.2.2]
    rfl

end Cert.XattnIdeal.Hand

end
-- ==== Proof.lean ====
/-
  The certificate's claim: for each call of the layer, its frame at both float instances, the frame of the plain
  reference, that the idealized program is the program, and that the call computes its reference over the extended
  reals. The value proofs are the modules `Proof/<Call>Value.lean`; this file assembles them.
-/
module

public import proofs.«01_k».proof.Defs
public import proofs.«01_k».proof.Proof.Gen.Gdn
public import proofs.«01_k».proof.Proof.Gen.Gdn.Frame
public import proofs.«01_k».proof.Proof.Gen.GdnIdeal
public import proofs.«01_k».proof.Proof.Gen.GdnIdeal.Frame
public import proofs.«01_k».proof.Proof.Gen.GdnIdeal.Value
public import proofs.«01_k».proof.Proof.Gen.GdnRefIdeal
public import proofs.«01_k».proof.Proof.Gen.GdnRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.InA
public import proofs.«01_k».proof.Proof.Gen.InA.Frame
public import proofs.«01_k».proof.Proof.Gen.InAIdeal
public import proofs.«01_k».proof.Proof.Gen.InAIdeal.Frame
public import proofs.«01_k».proof.Proof.Gen.InAIdeal.Value
public import proofs.«01_k».proof.Proof.Gen.InARefIdeal
public import proofs.«01_k».proof.Proof.Gen.InARefIdeal.Run
public import proofs.«01_k».proof.Proof.Gen.InARefIdeal.Read
public import proofs.«01_k».proof.Proof.Gen.InB
public import proofs.«01_k».proof.Proof.Gen.InB.Frame
public import proofs.«01_k».proof.Proof.Gen.InBIdeal
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.InBRefIdeal.Read
public import proofs.«01_k».proof.Proof.Gen.InBa
public import proofs.«01_k».proof.Proof.Gen.InBa.Frame
public import proofs.«01_k».proof.Proof.Gen.InBaIdeal
public import proofs.«01_k».proof.Proof.Gen.InBaIdeal.Frame
public import proofs.«01_k».proof.Proof.Gen.InBaIdeal.Value
public import proofs.«01_k».proof.Proof.Gen.InBaRefIdeal
public import proofs.«01_k».proof.Proof.Gen.InBaRefIdeal.Run
public import proofs.«01_k».proof.Proof.Gen.InBaRefIdeal.Read
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Xattn
public import proofs.«01_k».proof.Proof.Gen.Xattn.Frame
public import proofs.«01_k».proof.Proof.Gen.XattnIdeal
public import proofs.«01_k».proof.Proof.Gen.XattnIdeal.Frame
public import proofs.«01_k».proof.Proof.Gen.XattnIdeal.Value
public import proofs.«01_k».proof.Proof.Gen.XattnRefIdeal
public import proofs.«01_k».proof.Proof.Gen.XattnRefIdeal.Run
public import proofs.«01_k».proof.Proof.Gen.XattnRefIdeal.Read
public import proofs.«01_k».proof.Proof.FfnValue
public import proofs.«01_k».proof.Proof.InAValue
public import proofs.«01_k».proof.Proof.InBValue
public import proofs.«01_k».proof.Proof.InBaValue
public import proofs.«01_k».proof.Proof.KvValue
public import proofs.«01_k».proof.Proof.OutProjValue
public import proofs.«01_k».proof.Proof.XattnValue
public import Idealize.ShloMosaic.Adequacy
public import Idealize.ShloMosaic.Init

@[expose] public section

noncomputable section

namespace Cert.Proof

open Idealize.ShloMosaic Idealize.SL.Sem

/-- The frame of `Gdn` at the bit-exact floats. -/
theorem frame_Gdn : Cert.quiescent_Gdn := fun m ρ _ => Cert.Gdn.Gen.frame m ρ

/-- The frame of `GdnIdeal` over the extended reals. -/
theorem frame_GdnIdeal : Cert.quiescent_GdnIdeal := fun m ρ _ => Cert.GdnIdeal.Gen.frame m ρ

/-- The frame of the reference `GdnRefIdeal`: its run's arguments, and it declares no semaphore. -/
theorem frame_GdnRefIdeal : Cert.quiescent_GdnRefIdeal := fun m ρ _ =>
  (θ_run Cert.GdnRefIdeal.defs _ _).mono (fun r h => ⟨fun c => (h c).2, Idealize.ShloMosaic.sem_eq_zero_of_no_sems (by decide) r.2⟩)
    (Cert.GdnRefIdeal.Value.run (F := Ideal) m ρ)

/-- The frame of `Ffn` at the bit-exact floats. -/
theorem frame_Ffn : Cert.quiescent_Ffn := fun m ρ _ => Cert.Ffn.Gen.frame m ρ

/-- The frame of `FfnIdeal` over the extended reals. -/
theorem frame_FfnIdeal : Cert.quiescent_FfnIdeal := fun m ρ _ => Cert.FfnIdeal.Gen.frame m ρ

/-- The frame of the reference `FfnRefIdeal`: its run's arguments, and it declares no semaphore. -/
theorem frame_FfnRefIdeal : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The frame of `InA` at the bit-exact floats. -/
theorem frame_InA : Cert.quiescent_InA := fun m ρ _ => Cert.InA.Gen.frame m ρ

/-- The frame of `InAIdeal` over the extended reals. -/
theorem frame_InAIdeal : Cert.quiescent_InAIdeal := fun m ρ _ => Cert.InAIdeal.Gen.frame m ρ

/-- The frame of the reference `InARefIdeal`: its run's arguments, and it declares no semaphore. -/
theorem frame_InARefIdeal : Cert.quiescent_InARefIdeal := fun m ρ _ =>
  (θ_run Cert.InARefIdeal.defs _ _).mono (fun r h => ⟨fun c => (h c).2, Idealize.ShloMosaic.sem_eq_zero_of_no_sems (by decide) r.2⟩)
    (Cert.InARefIdeal.Value.run (F := Ideal) m ρ)

/-- The frame of `InB` at the bit-exact floats. -/
theorem frame_InB : Cert.quiescent_InB := fun m ρ _ => Cert.InB.Gen.frame m ρ

/-- The frame of `InBIdeal` over the extended reals. -/
theorem frame_InBIdeal : Cert.quiescent_InBIdeal := fun m ρ _ => Cert.InBIdeal.Gen.frame m ρ

/-- The frame of the reference `InBRefIdeal`: its run's arguments, and it declares no semaphore. -/
theorem frame_InBRefIdeal : Cert.quiescent_InBRefIdeal := fun m ρ _ =>
  (θ_run Cert.InBRefIdeal.defs _ _).mono (fun r h => ⟨fun c => (h c).2, Idealize.ShloMosaic.sem_eq_zero_of_no_sems (by decide) r.2⟩)
    (Cert.InBRefIdeal.Value.run (F := Ideal) m ρ)

/-- The frame of `InBa` at the bit-exact floats. -/
theorem frame_InBa : Cert.quiescent_InBa := fun m ρ _ => Cert.InBa.Gen.frame m ρ

/-- The frame of `InBaIdeal` over the extended reals. -/
theorem frame_InBaIdeal : Cert.quiescent_InBaIdeal := fun m ρ _ => Cert.InBaIdeal.Gen.frame m ρ

/-- The frame of the reference `InBaRefIdeal`: its run's arguments, and it declares no semaphore. -/
theorem frame_InBaRefIdeal : Cert.quiescent_InBaRefIdeal := fun m ρ _ =>
  (θ_run Cert.InBaRefIdeal.defs _ _).mono (fun r h => ⟨fun c => (h c).2, Idealize.ShloMosaic.sem_eq_zero_of_no_sems (by decide) r.2⟩)
    (Cert.InBaRefIdeal.Value.run (F := Ideal) m ρ)

/-- The frame of `Kv` at the bit-exact floats. -/
theorem frame_Kv : Cert.quiescent_Kv := fun m ρ _ => Cert.Kv.Gen.frame m ρ

/-- The frame of `KvIdeal` over the extended reals. -/
theorem frame_KvIdeal : Cert.quiescent_KvIdeal := fun m ρ _ => Cert.KvIdeal.Gen.frame m ρ

/-- The frame of the reference `KvRefIdeal`: its run's arguments, and it declares no semaphore. -/
theorem frame_KvRefIdeal : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)

/-- The frame of `OutProj` at the bit-exact floats. -/
theorem frame_OutProj : Cert.quiescent_OutProj := fun m ρ _ => Cert.OutProj.Gen.frame m ρ

/-- The frame of `OutProjIdeal` over the extended reals. -/
theorem frame_OutProjIdeal : Cert.quiescent_OutProjIdeal := fun m ρ _ => Cert.OutProjIdeal.Gen.frame m ρ

/-- The frame of the reference `OutProjRefIdeal`: its run's arguments, and it declares no semaphore. -/
theorem frame_OutProjRefIdeal : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

/-- The frame of `Xattn` at the bit-exact floats. -/
theorem frame_Xattn : Cert.quiescent_Xattn := fun m ρ _ => Cert.Xattn.Gen.frame m ρ

/-- The frame of `XattnIdeal` over the extended reals. -/
theorem frame_XattnIdeal : Cert.quiescent_XattnIdeal := fun m ρ _ => Cert.XattnIdeal.Gen.frame m ρ

/-- The frame of the reference `XattnRefIdeal`: its run's arguments, and it declares no semaphore. -/
theorem frame_XattnRefIdeal : Cert.quiescent_XattnRefIdeal := fun m ρ _ =>
  (θ_run Cert.XattnRefIdeal.defs _ _).mono (fun r h => ⟨fun c => (h c).2, Idealize.ShloMosaic.sem_eq_zero_of_no_sems (by decide) r.2⟩)
    (Cert.XattnRefIdeal.Value.run (F := Ideal) m ρ)

/-- The one rewrite of `GdnIdeal`: the mask's finite constant is named and reads −∞ over the extended reals. -/
theorem preserves_Gdn : Cert.preserves_Gdn_GdnIdeal := IdealRules.named_const.statement Cert.GdnIdeal.κ "mask" .f32 0xF149F2CA#32 ⊥ rfl

/-- `FfnIdeal` is `Ffn` printed with no rewrite. -/
theorem preserves_Ffn : Cert.preserves_Ffn_FfnIdeal := trivial

/-- `InAIdeal` is `InA` printed with no rewrite. -/
theorem preserves_InA : Cert.preserves_InA_InAIdeal := trivial

/-- `InBIdeal` is `InB` printed with no rewrite. -/
theorem preserves_InB : Cert.preserves_InB_InBIdeal := trivial

/-- `InBaIdeal` is `InBa` printed with no rewrite. -/
theorem preserves_InBa : Cert.preserves_InBa_InBaIdeal := trivial

/-- `KvIdeal` is `Kv` printed with no rewrite. -/
theorem preserves_Kv : Cert.preserves_Kv_KvIdeal := trivial

/-- `OutProjIdeal` is `OutProj` printed with no rewrite. -/
theorem preserves_OutProj : Cert.preserves_OutProj_OutProjIdeal := trivial

/-- `XattnIdeal` is `Xattn` printed with no rewrite. -/
theorem preserves_Xattn : Cert.preserves_Xattn_XattnIdeal := trivial

/-- The claim of the certificate, its parts in the order the claim lists them. -/
theorem claim : Cert.Claim :=
  ⟨Cert.Gdn.Gen.facts, Cert.GdnIdeal.Gen.facts, Cert.GdnRefIdeal.Gen.facts, Cert.Ffn.Gen.facts, Cert.FfnIdeal.Gen.facts, Cert.FfnRefIdeal.Gen.facts, Cert.InA.Gen.facts, Cert.InAIdeal.Gen.facts, Cert.InARefIdeal.Gen.facts, Cert.InB.Gen.facts, Cert.InBIdeal.Gen.facts, Cert.InBRefIdeal.Gen.facts, Cert.InBa.Gen.facts, Cert.InBaIdeal.Gen.facts, Cert.InBaRefIdeal.Gen.facts, Cert.Kv.Gen.facts, Cert.KvIdeal.Gen.facts, Cert.KvRefIdeal.Gen.facts, Cert.OutProj.Gen.facts, Cert.OutProjIdeal.Gen.facts, Cert.OutProjRefIdeal.Gen.facts, Cert.Xattn.Gen.facts, Cert.XattnIdeal.Gen.facts, Cert.XattnRefIdeal.Gen.facts,
    frame_Gdn,
    frame_GdnIdeal,
    frame_GdnRefIdeal,
    frame_Ffn,
    frame_FfnIdeal,
    frame_FfnRefIdeal,
    frame_InA,
    frame_InAIdeal,
    frame_InARefIdeal,
    frame_InB,
    frame_InBIdeal,
    frame_InBRefIdeal,
    frame_InBa,
    frame_InBaIdeal,
    frame_InBaRefIdeal,
    frame_Kv,
    frame_KvIdeal,
    frame_KvRefIdeal,
    frame_OutProj,
    frame_OutProjIdeal,
    frame_OutProjRefIdeal,
    frame_Xattn,
    frame_XattnIdeal,
    frame_XattnRefIdeal,
    preserves_Gdn,
    preserves_Ffn,
    Cert.FfnIdeal.Hand.algebraic,
    preserves_InA,
    Cert.InAIdeal.Hand.algebraic,
    preserves_InB,
    Cert.InBIdeal.Hand.algebraic,
    preserves_InBa,
    Cert.InBaIdeal.Hand.algebraic,
    preserves_Kv,
    Cert.KvIdeal.Hand.algebraic,
    preserves_OutProj,
    Cert.OutProjIdeal.Hand.algebraic,
    preserves_Xattn,
    Cert.XattnIdeal.Hand.algebraic⟩

end Cert.Proof

end
